-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_adjacency [hPre_small_adjacency : Cert.Pre_small_adjacency.Facts] (m : (ℓ : Loc Cert.KernelIdeal.nD Cert.KernelIdeal.τ Cert.KernelIdeal.sig) → Buf (Elt Ideal) ℓ) : Prop :=
  ∀ c : Dev Cert.KernelIdeal.nD,
    (Cert.Pre_small_adjacency.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_small_adjacency.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_small_adjacency.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_small_adjacency.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_adjacency [hPre_small_adjacency : Cert.Pre_small_adjacency.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_adjacency.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_small_adjacency.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_small_adjacency.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_small_adjacency.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_small_adjacency [hKernelIdeal : Cert.KernelIdeal.Facts] [hPre_small_adjacency : Cert.Pre_small_adjacency.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_adjacency m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_small_adjacency [hReferenceIdeal : Cert.ReferenceIdeal.Facts] [hPre_small_adjacency : Cert.Pre_small_adjacency.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_adjacency m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_scale" .f32 0x313A69DC#32 ((1 / 368640000 : ℝ) : EReal)

def algebraic_KernelIdeal_ReferenceIdeal_pre_small_adjacency [hKernelIdeal : Cert.KernelIdeal.Facts] [hReferenceIdeal : Cert.ReferenceIdeal.Facts] [hPre_small_adjacency : Cert.Pre_small_adjacency.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_adjacency m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_small_adjacency : Cert.Pre_small_adjacency.Facts),
    quiescent_Kernel (hKernel := hKernel)
    ∧ quiescent_KernelIdeal (hKernelIdeal := hKernelIdeal)
    ∧ quiescent_KernelIdeal_pre_small_adjacency (hKernelIdeal := hKernelIdeal) (hPre_small_adjacency := hPre_small_adjacency)
    ∧ quiescent_ReferenceIdeal (hReferenceIdeal := hReferenceIdeal)
    ∧ quiescent_ReferenceIdeal_pre_small_adjacency (hReferenceIdeal := hReferenceIdeal) (hPre_small_adjacency := hPre_small_adjacency)
    ∧ preserves_Kernel_KernelIdeal
    ∧ algebraic_KernelIdeal_ReferenceIdeal_pre_small_adjacency (hKernelIdeal := hKernelIdeal) (hReferenceIdeal := hReferenceIdeal) (hPre_small_adjacency := hPre_small_adjacency)
-- ==== Pre_small_adjacency.lean ====
abbrev S10000x256 : Shape := ⟨2, ![10000, 256]⟩
abbrev S10000x10000 : Shape := ⟨2, ![10000, 10000]⟩
abbrev S256x64 : Shape := ⟨2, ![256, 64]⟩
abbrev S64x16 : Shape := ⟨2, ![64, 16]⟩
abbrev S_ : Shape := ⟨0, ![]⟩

class Facts : Prop where
  bcast_S_S10000x256 : S_.BroadcastsInDim S10000x256 (![] : Fin 0 → Fin S10000x256.rank)
  bcast_S_S10000x10000 : S_.BroadcastsInDim S10000x10000 (![] : Fin 0 → Fin S10000x10000.rank)
  bcast_S_S256x64 : S_.BroadcastsInDim S256x64 (![] : Fin 0 → Fin S256x64.rank)
  bcast_S_S64x16 : S_.BroadcastsInDim S64x16 (![] : Fin 0 → Fin S64x16.rank)

variable [Facts]

def fn {F : FTy → Type} [FloatOps F] (main_arg0 : FVec F S10000x256 .f32) (main_arg1 : FVec F S10000x10000 .f32) (main_arg2 : FVec F S256x64 .f32) (main_arg3 : FVec F S64x16 .f32) : IVec S10000x256 1 × IVec S10000x10000 1 × IVec S256x64 1 × IVec S64x16 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_v3 : FVec F S10000x10000 .f32 := Host.absf main_arg1
  let main_cst_0 : FVec F S_ .f32 := constant S_ .f32 0x461C4000#32
  let main_v4 : FVec F S10000x10000 .f32 := broadcastInDim S10000x10000 ![] bcast_S_S10000x10000 main_cst_0
  let main_v5 : FVec F S10000x10000 .f32 := mulf main_v3 main_v4
  let main_cst_1 : FVec F S_ .f32 := constant S_ .f32 0x3F800000#32
  let main_v6 : FVec F S10000x10000 .f32 := broadcastInDim S10000x10000 ![] bcast_S_S10000x10000 main_cst_1
  let main_v7 : IVec S10000x10000 1 := cmpf .ole main_v5 main_v6
  let main_v8 : FVec F S256x64 .f32 := Host.absf main_arg2
  let main_cst_2 : FVec F S_ .f32 := constant S_ .f32 0x7F800000#32
  let main_v9 : FVec F S256x64 .f32 := broadcastInDim S256x64 ![] bcast_S_S256x64 main_cst_2
  let main_v10 : IVec S256x64 1 := cmpf .olt main_v8 main_v9
  let main_v11 : FVec F S64x16 .f32 := Host.absf main_arg3
  let main_cst_3 : FVec F S_ .f32 := constant S_ .f32 0x7F800000#32
  let main_v12 : FVec F S64x16 .f32 := broadcastInDim S64x16 ![] bcast_S_S64x16 main_cst_3
  let main_v13 : IVec S64x16 1 := cmpf .olt main_v11 main_v12
  (main_v2, main_v7, main_v10, main_v13)
-- ==== Kernel.lean ====
abbrev S10000x256 : Shape := ⟨2, ![10000, 256]⟩
abbrev S10000x10000 : Shape := ⟨2, ![10000, 10000]⟩
abbrev S256x64 : Shape := ⟨2, ![256, 64]⟩
abbrev S64x16 : Shape := ⟨2, ![64, 16]⟩
abbrev S10000x16 : Shape := ⟨2, ![10000, 16]⟩
abbrev S25x1x16 : Shape := ⟨3, ![25, 1, 16]⟩
abbrev S10000x64 : Shape := ⟨2, ![10000, 64]⟩
abbrev S16 : Shape := ⟨1, ![16]⟩
abbrev S1x16 : Shape := ⟨2, ![1, 16]⟩
abbrev S1x1x16 : Shape := ⟨3, ![1, 1, 16]⟩
abbrev S400x10000 : Shape := ⟨2, ![400, 10000]⟩
abbrev S400x16 : Shape := ⟨2, ![400, 16]⟩
abbrev S400 : Shape := ⟨1, ![400]⟩
abbrev S400x1 : Shape := ⟨2, ![400, 1]⟩

abbrev nBuf : Space → Nat
  | .hbm => 11
  | .vmem => 27
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x64, .f32⟩
  | .hbm, ⟨3, _⟩ => ⟨S64x16, .f32⟩
  | .hbm, ⟨4, _⟩ => ⟨S10000x16, .f32⟩
  | .hbm, ⟨5, _⟩ => ⟨S25x1x16, .f32⟩
  | .hbm, ⟨6, _⟩ => ⟨S10000x16, .fp8e4m3⟩
  | .hbm, ⟨7, _⟩ => ⟨S10000x16, .fp8e4m3⟩
  | .hbm, ⟨8, _⟩ => ⟨S25x1x16, .f32⟩
  | .hbm, ⟨9, _⟩ => ⟨S10000x10000, .fp8e4m3⟩
  | .hbm, ⟨10, _⟩ => ⟨S10000x16, .f32⟩
  | .local _ .vmem, ⟨0, _⟩ => ⟨S10000x256, .f32⟩
  | .local _ .vmem, ⟨1, _⟩ => ⟨S256x64, .f32⟩
  | .local _ .vmem, ⟨2, _⟩ => ⟨S64x16, .f32⟩
  | .local _ .vmem, ⟨3, _⟩ => ⟨S10000x16, .f32⟩
  | .local _ .vmem, ⟨4, _⟩ => ⟨S25x1x16, .f32⟩
  | .local _ .vmem, ⟨5, _⟩ => ⟨S10000x16, .fp8e4m3⟩
  | .local _ .vmem, ⟨6, _⟩ => ⟨S400x10000, .f32⟩
  | .local _ .vmem, ⟨7, _⟩ => ⟨S400x10000, .f32⟩
  | .local _ .vmem, ⟨8, _⟩ => ⟨S10000x16, .fp8e4m3⟩
  | .local _ .vmem, ⟨9, _⟩ => ⟨S10000x16, .f32⟩
  | .local _ .vmem, ⟨10, _⟩ => ⟨S25x1x16, .f32⟩
  | .local _ .vmem, ⟨11, _⟩ => ⟨S400x16, .fp8e4m3⟩
  | .local _ .vmem, ⟨12, _⟩ => ⟨S400x16, .fp8e4m3⟩
  | .local _ .vmem, ⟨13, _⟩ => ⟨S1x1x16, .f32⟩
  | .local _ .vmem, ⟨14, _⟩ => ⟨S1x1x16, .f32⟩
  | .local _ .vmem, ⟨15, _⟩ => ⟨S400x10000, .fp8e4m3⟩
  | .local _ .vmem, ⟨16, _⟩ => ⟨S400x10000, .fp8e4m3⟩
  | .local _ .vmem, ⟨17, _⟩ => ⟨S400x10000, .fp8e4m3⟩
  | .local _ .vmem, ⟨18, _⟩ => ⟨S400x10000, .fp8e4m3⟩
  | .local _ .vmem, ⟨19, _⟩ => ⟨S10000x16, .fp8e4m3⟩
  | .local _ .vmem, ⟨20, _⟩ => ⟨S10000x16, .f32⟩
  | .local _ .vmem, ⟨21, _⟩ => ⟨S25x1x16, .f32⟩
  | .local _ .vmem, ⟨22, _⟩ => ⟨S25x1x16, .f32⟩
  | .local _ .vmem, ⟨23, _⟩ => ⟨S400x16, .f32⟩
  | .local _ .vmem, ⟨24, _⟩ => ⟨S400x16, .f32⟩
  | .local _ .vmem, ⟨25, _⟩ => ⟨S10000x16, .fp8e4m3⟩
  | .local _ .vmem, ⟨26, _⟩ => ⟨S10000x16, .fp8e4m3⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0_0 : Ref sig .tc := ⟨.hbm, 4, rfl⟩
abbrev main_call0_v0_1 : Ref sig .tc := ⟨.hbm, 5, rfl⟩
abbrev main_call0_v0_2 : Ref sig .tc := ⟨.hbm, 6, rfl⟩
abbrev main_call0_v1_0 : Ref sig .tc := ⟨.hbm, 7, rfl⟩
abbrev main_call0_v1_1 : Ref sig .tc := ⟨.hbm, 8, rfl⟩
abbrev main_call0_v1_2 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_scratch0 : Ref sig .tc := ⟨.vmem, 25, rfl⟩
abbrev cc2_scratch1 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := .none

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S25x1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10000x16 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![25], ![false]⟩

def k1_off1 (i : grid1.Coords) : Fin 2 → Nat :=
  let arg0 : BitVec 32 := BitVec.ofNat 32 (i 0).val
  let c400_i32 : BitVec 32 := 400#32
  let v21 : BitVec 32 := Scalar.muli arg0 c400_i32
  let v22 : Index := Scalar.indexCast v21
  let c0_14 : Index := 0#32
  ![v22.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10000x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S25x1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x16 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x10000 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![9, 25], ![false, false]⟩

def k2_cond1 (i : grid2.Coords) : BitVec 1 :=
  let arg0 : BitVec 32 := BitVec.ofNat 32 (i 0).val
  let c0_i32_10 : BitVec 32 := 0#32
  let v17 : BitVec 1 := Scalar.cmpi .eq arg0 c0_i32_10
  let v18 : BitVec 32 := Scalar.extui v17
  let c0_i32_11 : BitVec 32 := 0#32
  let v19 : BitVec 1 := Scalar.cmpi .ne v18 c0_i32_11
  v19

def k2_off1 (i : grid2.Coords) : Fin 2 → Nat :=
  let arg1 : BitVec 32 := BitVec.ofNat 32 (i 1).val
  let c400_i32 : BitVec 32 := 400#32
  let v57 : BitVec 32 := Scalar.muli arg1 c400_i32
  let v58 : Index := Scalar.indexCast v57
  let c0_33 : Index := 0#32
  ![v58.toNat, 0]
def k2_cond2 (i : grid2.Coords) : BitVec 1 :=
  let arg0 : BitVec 32 := BitVec.ofNat 32 (i 0).val
  let c0_i32_12 : BitVec 32 := 0#32
  let v20 : BitVec 1 := Scalar.cmpi .sgt arg0 c0_i32_12
  let c2_i32 : BitVec 32 := 2#32
  let c0_i32_13 : BitVec 32 := 0#32
  let v21 : BitVec 1 := Scalar.cmpi .eq c2_i32 c0_i32_13
  let c1_i32 : BitVec 32 := 1#32
  let v22 : BitVec 32 := Scalar.select v21 c1_i32 c2_i32
  let v23 : BitVec 32 := Scalar.remsi arg0 v22
  let c0_i32_15 : BitVec 32 := 0#32
  let v25 : BitVec 1 := Scalar.cmpi .slt v23 c0_i32_15
  let c0_i32_16 : BitVec 32 := 0#32
  let v26 : BitVec 1 := Scalar.cmpi .slt v22 c0_i32_16
  let v27 : BitVec 1 := Scalar.xori v25 v26
  let c0_i32_14 : BitVec 32 := 0#32
  let v24 : BitVec 1 := Scalar.cmpi .ne v23 c0_i32_14
  let v28 : BitVec 1 := Scalar.andi v27 v24
  let v29 : BitVec 32 := Scalar.addi v23 v22
  let v30 : BitVec 32 := Scalar.select v28 v29 v23
  let c0_i32_17 : BitVec 32 := 0#32
  let v31 : BitVec 1 := Scalar.cmpi .eq v30 c0_i32_17
  let v32 : BitVec 1 := Scalar.andi v20 v31
  let v33 : BitVec 32 := Scalar.extui v32
  let c0_i32_18 : BitVec 32 := 0#32
  let v34 : BitVec 1 := Scalar.cmpi .ne v33 c0_i32_18
  v34

def k2_off2 (i : grid2.Coords) : Fin 2 → Nat :=
  let arg1 : BitVec 32 := BitVec.ofNat 32 (i 1).val
  let c400_i32 : BitVec 32 := 400#32
  let v56 : BitVec 32 := Scalar.muli arg1 c400_i32
  let v57 : Index := Scalar.indexCast v56
  let c0_33 : Index := 0#32
  ![v57.toNat, 0]
def k2_cond4 (i : grid2.Coords) : BitVec 1 :=
  let arg0 : BitVec 32 := BitVec.ofNat 32 (i 0).val
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi arg0 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c1_i32_25 : BitVec 32 := 1#32
  let v45 : BitVec 1 := Scalar.cmpi .eq v44 c1_i32_25
  let v46 : BitVec 32 := Scalar.extui v45
  let c0_i32_26 : BitVec 32 := 0#32
  let v47 : BitVec 1 := Scalar.cmpi .ne v46 c0_i32_26
  v47

def k2_off3 (i : grid2.Coords) : Fin 2 → Nat :=
  let arg1 : BitVec 32 := BitVec.ofNat 32 (i 1).val
  let c400_i32 : BitVec 32 := 400#32
  let v56 : BitVec 32 := Scalar.muli arg1 c400_i32
  let v57 : Index := Scalar.indexCast v56
  let c0_33 : Index := 0#32
  ![v57.toNat, 0]
def k2_cond3 (i : grid2.Coords) : BitVec 1 :=
  let arg0 : BitVec 32 := BitVec.ofNat 32 (i 0).val
  let c8_i32 : BitVec 32 := 8#32
  let v75 : BitVec 1 := Scalar.cmpi .eq arg0 c8_i32
  let v76 : BitVec 32 := Scalar.extui v75
  let c0_i32_39 : BitVec 32 := 0#32
  let v77 : BitVec 1 := Scalar.cmpi .ne v76 c0_i32_39
  v77

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage2_0 : Fin 2 → Memref sig .tc .vmem S400x10000 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S10000x16 .fp8e4m3 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S10000x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S25x1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S25x1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S400x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]
-- ==== KernelIdeal.lean ====
variable {F : FTy → Type} [FloatOps F] [Named F]
def κ : String → Option EReal := fun
  | "inv_scale" => some ((1 / 368640000 : ℝ) : EReal)
  | _ => none
-- ==== ReferenceIdeal.lean ====
abbrev S10000x256 : Shape := ⟨2, ![10000, 256]⟩
abbrev S10000x10000 : Shape := ⟨2, ![10000, 10000]⟩
abbrev S256x64 : Shape := ⟨2, ![256, 64]⟩
abbrev S64x16 : Shape := ⟨2, ![64, 16]⟩
abbrev S10000x64 : Shape := ⟨2, ![10000, 64]⟩
abbrev S_ : Shape := ⟨0, ![]⟩
abbrev S10000x16 : Shape := ⟨2, ![10000, 16]⟩
abbrev S10000 : Shape := ⟨1, ![10000]⟩
abbrev S10000x1 : Shape := ⟨2, ![10000, 1]⟩

abbrev nBuf : Space → Nat
  | .hbm => 74
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x64, .f32⟩
  | .hbm, ⟨3, _⟩ => ⟨S64x16, .f32⟩
  | .hbm, ⟨4, _⟩ => ⟨S10000x64, .f32⟩
  | .hbm, ⟨5, _⟩ => ⟨S_, .f32⟩
  | .hbm, ⟨6, _⟩ => ⟨S10000x64, .f32⟩
  | .hbm, ⟨7, _⟩ => ⟨S10000x64, .f32⟩
  | .hbm, ⟨8, _⟩ => ⟨S10000x16, .f32⟩
  | .hbm, ⟨9, _⟩ => ⟨S10000x16, .f32⟩
  | .hbm, ⟨10, _⟩ => ⟨S_, .f32⟩
  | .hbm, ⟨11, _⟩ => ⟨S10000x16, .f32⟩
  | .hbm, ⟨12, _⟩ => ⟨S10000x16, .f32⟩
  | .hbm, ⟨13, _⟩ => ⟨S10000x16, .f32⟩
  | .hbm, ⟨14, _⟩ => ⟨S10000x16, .f32⟩
  | .hbm, ⟨15, _⟩ => ⟨S_, .f32⟩
  | .hbm, ⟨16, _⟩ => ⟨S10000x16, .f32⟩
  | .hbm, ⟨17, _⟩ => ⟨S10000x16, .f32⟩
  | .hbm, ⟨18, _⟩ => ⟨S10000x16, .f32⟩
  | .hbm, ⟨19, _⟩ => ⟨S10000x16, .f32⟩
  | .hbm, ⟨20, _⟩ => ⟨S_, .f32⟩
  | .hbm, ⟨21, _⟩ => ⟨S10000x16, .f32⟩
  | .hbm, ⟨22, _⟩ => ⟨S10000x16, .f32⟩
  | .hbm, ⟨23, _⟩ => ⟨S10000x16, .f32⟩
  | .hbm, ⟨24, _⟩ => ⟨S10000x16, .f32⟩
  | .hbm, ⟨25, _⟩ => ⟨S_, .f32⟩
  | .hbm, ⟨26, _⟩ => ⟨S10000x16, .f32⟩
  | .hbm, ⟨27, _⟩ => ⟨S10000x16, .f32⟩
  | .hbm, ⟨28, _⟩ => ⟨S10000x16, .f32⟩
  | .hbm, ⟨29, _⟩ => ⟨S10000x16, .f32⟩
  | .hbm, ⟨30, _⟩ => ⟨S_, .f32⟩
  | .hbm, ⟨31, _⟩ => ⟨S10000x16, .f32⟩
  | .hbm, ⟨32, _⟩ => ⟨S10000x16, .f32⟩
  | .hbm, ⟨33, _⟩ => ⟨S10000x16, .f32⟩
  | .hbm, ⟨34, _⟩ => ⟨S10000x16, .f32⟩
  | .hbm, ⟨35, _⟩ => ⟨S_, .f32⟩
  | .hbm, ⟨36, _⟩ => ⟨S10000x16, .f32⟩
  | .hbm, ⟨37, _⟩ => ⟨S10000x16, .f32⟩
  | .hbm, ⟨38, _⟩ => ⟨S10000x16, .f32⟩
  | .hbm, ⟨39, _⟩ => ⟨S10000x16, .f32⟩
  | .hbm, ⟨40, _⟩ => ⟨S_, .f32⟩
  | .hbm, ⟨41, _⟩ => ⟨S10000x16, .f32⟩
  | .hbm, ⟨42, _⟩ => ⟨S10000x16, .f32⟩
  | .hbm, ⟨43, _⟩ => ⟨S10000x16, .f32⟩
  | .hbm, ⟨44, _⟩ => ⟨S10000x16, .f32⟩
  | .hbm, ⟨45, _⟩ => ⟨S_, .f32⟩
  | .hbm, ⟨46, _⟩ => ⟨S10000x16, .f32⟩
  | .hbm, ⟨47, _⟩ => ⟨S10000x16, .f32⟩
  | .hbm, ⟨48, _⟩ => ⟨S10000x16, .f32⟩
  | .hbm, ⟨49, _⟩ => ⟨S10000x16, .f32⟩
  | .hbm, ⟨50, _⟩ => ⟨S_, .f32⟩
  | .hbm, ⟨51, _⟩ => ⟨S10000x16, .f32⟩
  | .hbm, ⟨52, _⟩ => ⟨S10000x16, .f32⟩
  | .hbm, ⟨53, _⟩ => ⟨S10000x16, .f32⟩
  | .hbm, ⟨54, _⟩ => ⟨S10000x16, .f32⟩
  | .hbm, ⟨55, _⟩ => ⟨S_, .f32⟩
  | .hbm, ⟨56, _⟩ => ⟨S10000x16, .f32⟩
  | .hbm, ⟨57, _⟩ => ⟨S10000x16, .f32⟩
  | .hbm, ⟨58, _⟩ => ⟨S10000x16, .f32⟩
  | .hbm, ⟨59, _⟩ => ⟨S_, .f32⟩
  | .hbm, ⟨60, _⟩ => ⟨S10000, .f32⟩
  | .hbm, ⟨61, _⟩ => ⟨S_, .f32⟩
  | .hbm, ⟨62, _⟩ => ⟨S10000, .f32⟩
  | .hbm, ⟨63, _⟩ => ⟨S10000, .f32⟩
  | .hbm, ⟨64, _⟩ => ⟨S10000x1, .f32⟩
  | .hbm, ⟨65, _⟩ => ⟨S10000x16, .f32⟩
  | .hbm, ⟨66, _⟩ => ⟨S10000x16, .f32⟩
  | .hbm, ⟨67, _⟩ => ⟨S10000x16, .f32⟩
  | .hbm, ⟨68, _⟩ => ⟨S_, .f32⟩
  | .hbm, ⟨69, _⟩ => ⟨S10000, .f32⟩
  | .hbm, ⟨70, _⟩ => ⟨S10000x1, .f32⟩
  | .hbm, ⟨71, _⟩ => ⟨S10000x1, .f32⟩
  | .hbm, ⟨72, _⟩ => ⟨S10000x16, .f32⟩
  | .hbm, ⟨73, _⟩ => ⟨S10000x16, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call1_cst : Ref sig .tc := ⟨.hbm, 59, rfl⟩
abbrev main_call1_v0 : Ref sig .tc := ⟨.hbm, 60, rfl⟩
abbrev main_call1_cst_0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_cst_1 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_v43 : Ref sig .tc := ⟨.hbm, 73, rfl⟩

abbrev nD : Nat := 1
abbrev τ : Topo := Topo.v7x

variable {F : FTy → Type} [FloatOps F]
-- ==== Proof.Region.lean ====
/- One kernel region of a run, left at whatever its write-backs may have put in its arrays.

   The regions of this program are proved with exact data, except that one output window is held only to a predicate. The record
   below serves both: it hands the region's exit the arrays at SOME contents that the data allow, and asks the caller to turn any
   such contents into the thread state of the next segment. -/
module

public import Idealize.ShloMosaic.Lib.Pipeline.DatRel
public import Idealize.ShloMosaic.Lib.Pipeline.RegionsLoop
public import Idealize.ShloMosaic.Lib.Pipeline.FrameSuffix
public import Idealize.ShloMosaic.Lib.Pipeline.RegionArrays

@[expose] public section

noncomputable section

namespace Cert.Shared

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U]

local notation "𝕄" => MT nD τ sig Unit Val ℕ U ℕ

/-- The arrays after a region, of which some windows are held to a predicate: at some contents that the data allow. -/
theorem arraysAt_some [∀ e, Nonempty (Val e)] {Λ₀ : Idealize.SL.Sem.Labels} {cfg : Cfg sig Λ₀} {c : Dev nD}
    (dat : Dat τ Val Unit ℕ U ℕ cfg c) (fgt : Fin cfg.W → Bool)
    (Rl : (w : Fin cfg.W) → Fin cfg.N → ((cfg.win w).block.Idx → Val (cfg.win w).elt) → Prop) (n : Nat) :
    ((dat.toRRel fgt Rl).arraysAt n : sProp 𝕄)
      ⊢ iprop(∃ A : (w : Fin cfg.W) → Buf Val ((cfg.win w).arr.view.loc (c.tc : Thread nD τ)),
          ⌜∀ w, (dat.toRRel fgt Rl).ArrAt w n (A w)⌝ ∗ dat.arrays A) := by
  unfold RDat.arraysAt Dat.arrays
  refine (BI.bigSep_exists_pi Finset.univ _).trans ?_
  iintro ⟨%A, H⟩
  ihave H' := (BI.bigSep_pure_sep Finset.univ (fun w => (dat.toRRel fgt Rl).ArrAt w n (A w)) _) $$ H
  icases H' with ⟨%hA, H⟩
  iexists A
  isplitr
  · ipureintro; exact fun w => hA w (Finset.mem_univ w)
  iexact H

variable {Λ₀ : Idealize.SL.Sem.Labels} {P : Type} [Fintype P]
variable (pcs : P → PCfg sig Λ₀ Val) (a : (p : P) → (pcs p).Adm)
variable (pdats : (p : P) → (c : Dev nD) → Dat τ Val Unit ℕ U ℕ (pin pcs a p) c)
variable (fg : (p : P) → Fin (pin pcs a p).W → Bool)
variable (Rl : (p : P) → (c : Dev nD) → (w : Fin (pin pcs a p).W) → Fin (pin pcs a p).N →
  (((pin pcs a p).win w).block.Idx → Val ((pin pcs a p).win w).elt) → Prop)
variable (defs₀ : Defs nD τ sig Val Λ₀) (𝒱₀ : Variants) (L : GSem nD τ sig → Finset Unit) (lv : GSem nD τ sig → Unit → ℕ)

/-- The family of proof data, the windows that `fg` marks held to `Rl`. -/
abbrev rels : (p : P) → (c : Dev nD) → RDat τ Val Unit ℕ U ℕ (pin pcs a p) c := fun p c => (pdats p c).toRRel (fg p) (Rl p c)

/-- What rides beside the buffers from segment to segment: the generator register at some state, and the core owing nothing. -/
abbrev rides (c : Dev nD) : sProp 𝕄 :=
  iprop((∃ r, prngReg c r) ∗ ∃ W, owes (c : Thread nD τ) (0 : CellTallies nD τ sig Unit) W)

/-- A region entered with every unscoped buffer at `W c`. It is left with its arrays at any contents `A` that its data allow and every
    other unscoped buffer at `W c`; `hpost` makes the next thread state of that. The body owes nothing and has no semaphore of its own. -/
def regionOf [∀ e, Nonempty (Val e)] (p : P) (kit : WinFacts (pin pcs a p).spec)
    (block_pos : ∀ w : Fin (pin pcs a p).W, 0 < ((pin pcs a p).spec w).block.numel)
    (arr_whole : ∀ w : Fin (pin pcs a p).W, ((pin pcs a p).spec w).arr.IsWhole)
    (stage_whole : ∀ (w : Fin (pin pcs a p).W) (s : Fin ((pin pcs a p).spec w).nbuf), (((pin pcs a p).spec w).stage s).IsWhole)
    (hK : (pcs p).pre.K = 0)
    (hbody : ∀ c, (rels pcs a pdats fg Rl p c).BodyObligation defs₀ 𝒱₀ () Set.univ)
    (howed : ∀ c t, (pdats p c).owed t = 0) (hrec : ∀ c, (pdats p c).recorded 0 = Set.univ)
    (hshare : ∀ c w, (pdats p c).share w = fullShare)
    (hin : ∀ c : Dev nD, iprop(scopedRest (pin pcs a p).spec c ∗ ∃ r, prngReg c r) ⊢ (pdats p c).Φ 0)
    (hout : ∀ c : Dev nD, (pdats p c).Φ (Fin.last (pin pcs a p).N) ⊢ iprop(scopedRest (pin pcs a p).spec c ∗ ∃ r, prngReg c r))
    (W : Dev nD → Valuation τ sig Val)
    (hW : ∀ c w, (pdats p c).A w = W c (Proc.devRef .tc (arrRef (pin pcs a p).spec w)))
    (post : Dev nD → sProp 𝕄)
    (hpost : ∀ c A, (∀ w, (rels pcs a pdats fg Rl p c).ArrAt w (pin pcs a p).N (A w)) →
      iprop(StableHlo.held (c : Thread nD τ) (ucRefs τ sig) (withArrays (pin pcs a p).spec c (W c) A) ∗ rides c) ⊢ post c) :
    RDat.RegionSeg pcs a (rels pcs a pdats fg Rl) () defs₀ 𝒱₀ L lv p where
  win := kit.to₀
  block_pos := block_pos
  stage_whole := stage_whole
  K := PEmpty
  osem k := k.elim
  ho := OwnSemFacts.none _
  hbody := hbody
  hwaits c := RDat.hwaits_of_owed_zero pcs a (rels pcs a pdats fg Rl) () L lv p (fun c t => howed c t) c
  pre c := iprop(StableHlo.held (c : Thread nD τ) (ucRefs τ sig) (W c) ∗ rides c)
  post := post
  X c := iprop(∃ r, prngReg c r)
  Y c := iprop(∃ r, prngReg c r)
  Z c := unscopedRest (pin pcs a p).spec c (fun b => W c (Proc.devRef .tc b))
  hentry c := by
    show _ ⊢ |={Set.univ}=> iprop((pdats p c).arrays ((pdats p c).arrAt · 0) ∗ prefHeld (pcs p).pre c (fun _ => fullShare) (a p).1
        ∗ (pdats p c).owesAt () 0 ∗ _ ∗ _)
    rw [ownSems0_none, prefHeld_of_none _ hK]
    have hsplit := arrays_of_unscopedBufs (p := p) pcs a pdats kit arr_whole c (hshare c) (fun b => W c (Proc.devRef .tc b)) (hW c)
    rw [unscopedBufs_held] at hsplit
    iintro ⟨⟨Hub, Hp, HO⟩, -, -⟩
    ihave H := hsplit $$ Hub
    icases H with ⟨Ha, Hrest⟩
    imodintro
    isplitl [Ha]; · iexact Ha
    isplitr; · iempintro
    isplitl [HO]
    · unfold Dat.owesAt owesWithin Dat.bound
      rw [howed c 0, hrec c]
      icases HO with ⟨%Wd, HO⟩; iexists Wd; isplitr; · ipureintro; exact fun _ _ => Or.inl trivial
      iexact HO
    isplitl [Hp]; · iexact Hp
    iexact Hrest
  hin c := (show _ ⊢ iprop(scopedRest (pin pcs a p).spec c ∗ ∃ r, prngReg c r) from by
    iintro ⟨Hp, -, Hr⟩
    isplitl [Hr]; · iexact Hr
    iexact Hp).trans (hin c)
  hout c := (hout c).trans (by
    rw [ownSems0_none]
    iintro ⟨Hr, Hp⟩
    isplitl [Hp]; · iexact Hp
    isplitr; · iempintro
    iexact Hr)
  hexit c := by
    show iprop(((pdats p c).toRRel (fg p) (Rl p c)).arraysAt (pin pcs a p).N ∗ (pdats p c).owesAt () (Fin.last (pin pcs a p).N) ∗ _ ∗ _) ⊢ _
    iintro ⟨Ha, HO, HY, Hrest⟩
    ihave Ha := (arraysAt_some (pdats p c) (fg p) (Rl p c) (pin pcs a p).N) $$ Ha
    icases Ha with ⟨%A, %hA, Ha⟩
    have hjoin := unscopedBufs_of_arrays (p := p) pcs a kit arr_whole c pdats (hshare c)
      (fun b => W c (Proc.devRef .tc b)) (fun b => withArrays (pin pcs a p).spec c (W c) A (Proc.devRef .tc b)) A
      (fun w => (withArrays_arr (pin pcs a p).spec kit.arr_inj c (W c) A w).symm)
      (fun b hb => withArrays_of_ne (pin pcs a p).spec c (W c) A b fun w e => hb (Finset.mem_image.mpr ⟨w, Finset.mem_univ _, e⟩))
    rw [unscopedBufs_held] at hjoin
    imodintro
    iapply (hpost c A hA)
    isplitl [Ha Hrest]
    · iapply hjoin; isplitl [Ha] <;> iassumption
    isplitl [HY]; · iexact HY
    unfold Dat.owesAt owesWithin
    rw [howed c (Fin.last _)]
    icases HO with ⟨%Wd, -, HO⟩; iexists Wd; iexact HO

end Cert.Shared

end
-- ==== Proof.KernelIdeal.Bodies.lean ====
/- What each of the three kernel bodies does to the buffers it is called on.

   Every theorem runs one body on whole buffers whose contents are given and hands back the same buffers, with what the body stored stated
   as a function of what it read. The third body keeps its state in two scratch buffers and branches on the outer grid coordinate: its
   effect is stated by `nextB`, `nextA` (the scratch buffers after the point) and `lastOut` (the block of the result). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Bodies

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The first body: one point, three whole stores -/

set_option maxHeartbeats 1000000 in
/-- The first body reads its three operands and stores the residual, its column maxima and its quantisation. -/
theorem run0 (c : Dev nD) (E : Set ℕ) (a0 : Memref sig .tc .vmem S10000x256 .f32) (h0 : a0.IsWhole) (a1 : Memref sig .tc .vmem S256x64 .f32) (h1 : a1.IsWhole)
    (a2 : Memref sig .tc .vmem S64x16 .f32) (h2 : a2.IsWhole) (a3 : Memref sig .tc .vmem S10000x16 .f32) (h3 : a3.IsWhole)
    (a4 : Memref sig .tc .vmem S25x1x16 .f32) (h4 : a4.IsWhole) (a5 : Memref sig .tc .vmem S10000x16 .fp8e4m3) (h5 : a5.IsWhole)
    (x : Vec F S10000x256 .f32) (w1 : Vec F S256x64 .f32) (w2 : Vec F S64x16 .f32) (K : PUnit → sProp 𝕄) :
    iprop(owns (c : Thread nD τ) a0 fullShare x ∗ owns (c : Thread nD τ) a1 fullShare w1 ∗ owns (c : Thread nD τ) a2 fullShare w2
        ∗ (∃ d, owns (c : Thread nD τ) a3 fullShare d) ∗ (∃ d, owns (c : Thread nD τ) a4 fullShare d) ∗ (∃ d, owns (c : Thread nD τ) a5 fullShare d)
        ∗ (iprop(owns (c : Thread nD τ) a0 fullShare x ∗ owns (c : Thread nD τ) a1 fullShare w1 ∗ owns (c : Thread nD τ) a2 fullShare w2
            ∗ owns (c : Thread nD τ) a3 fullShare (k0_pay1 x w1 w2) ∗ owns (c : Thread nD τ) a4 fullShare (k0_pay3 x w1 w2)
            ∗ owns (c : Thread nD τ) a5 fullShare (k0_pay4 x w1 w2)) -∗ K ⟨⟩))
      ⊢ wp frame (wpE (defs₀ (F := F)) Variants.none c none) E (cc0__mlp_kernel a0 h0 a1 h1 a2 h2 a3 h3 a4 h4 a5 h5) K := by
  simp only [cc0__mlp_kernel_eq_skeleton]; unfold cc0__mlp_kernel_skel
  unfold owns
  iintro ⟨⟨%f0, %e0, H0⟩, ⟨%f1, %e1, H1⟩, ⟨%f2, %e2, H2⟩, ⟨%d3, %f3, -, H3⟩, ⟨%d4, %f4, -, H4⟩, ⟨%d5, %f5, -, H5⟩, Hk⟩
  sl_exec
  sl_step
  iapply Hk
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists _; isplitr; swap; · iexact H3
                  ipureintro; rw [View.read_writes_full, View.readAt_full, View.readAt_full, View.readAt_full, e0, e1, e2]
  isplitl [H4]; · iexists _; isplitr; swap; · iexact H4
                  ipureintro; rw [View.read_writes_full, View.readAt_full, View.readAt_full, View.readAt_full, e0, e1, e2]
  iexists _; isplitr; swap; · iexact H5
  ipureintro; rw [View.read_writes_full, View.readAt_full, View.readAt_full, View.readAt_full, e0, e1, e2]

/-! ## The second body: one block row of the adjacency -/

/-- The rows of a tall array that the second body reads at point `i`. -/
abbrev rows1 (i : grid1.Coords) (x : Vec F S10000x16 .f32) : Vec F S400x16 .f32 := VecWindow.window x (k1_off1 i) S400x16.size (k1_off1_inb i)

/-- The quantised first sweep of a block of rows. -/
def sweep1 (i : grid1.Coords) (a : Vec F S400x10000 .f32) (qr : Vec F S10000x16 .fp8e4m3) (res : Vec F S10000x16 .f32) (cr : Vec F S25x1x16 .f32) : Vec F S400x16 .fp8e4m3 :=
  k1_pay1 (k1_pay6 a cr qr (rows1 i res)) (Scalar.ofBits .f32 0x43E00000#32) k1_pay7

/-- Its column maxima. -/
def peak1 (i : grid1.Coords) (a : Vec F S400x10000 .f32) (qr : Vec F S10000x16 .fp8e4m3) (res : Vec F S10000x16 .f32) (cr : Vec F S25x1x16 .f32) : Vec F S1x1x16 .f32 :=
  k1_pay2 (k1_pay5 a cr qr (rows1 i res))

set_option maxHeartbeats 1000000 in
/-- The second body stores the quantised block, the quantised first sweep and the column maxima. -/
theorem run1 (c : Dev nD) (E : Set ℕ) (i : grid1.Coords) (a1 : Memref sig .tc .vmem S400x10000 .f32) (h1 : a1.IsWhole) (a2 : Memref sig .tc .vmem S10000x16 .fp8e4m3) (h2 : a2.IsWhole)
    (a3 : Memref sig .tc .vmem S10000x16 .f32) (h3 : a3.IsWhole) (a4 : Memref sig .tc .vmem S25x1x16 .f32) (h4 : a4.IsWhole)
    (a5 : Memref sig .tc .vmem S400x16 .fp8e4m3) (h5 : a5.IsWhole) (a6 : Memref sig .tc .vmem S1x1x16 .f32) (h6 : a6.IsWhole)
    (a7 : Memref sig .tc .vmem S400x10000 .fp8e4m3) (h7 : a7.IsWhole)
    (a : Vec F S400x10000 .f32) (qr : Vec F S10000x16 .fp8e4m3) (res : Vec F S10000x16 .f32) (cr : Vec F S25x1x16 .f32) (K : PUnit → sProp 𝕄) :
    iprop(owns (c : Thread nD τ) a1 fullShare a ∗ owns (c : Thread nD τ) a2 fullShare qr ∗ owns (c : Thread nD τ) a3 fullShare res ∗ owns (c : Thread nD τ) a4 fullShare cr
        ∗ (∃ d, owns (c : Thread nD τ) a5 fullShare d) ∗ (∃ d, owns (c : Thread nD τ) a6 fullShare d) ∗ (∃ d, owns (c : Thread nD τ) a7 fullShare d)
        ∗ (iprop(owns (c : Thread nD τ) a1 fullShare a ∗ owns (c : Thread nD τ) a2 fullShare qr ∗ owns (c : Thread nD τ) a3 fullShare res ∗ owns (c : Thread nD τ) a4 fullShare cr
            ∗ owns (c : Thread nD τ) a5 fullShare (sweep1 i a qr res cr) ∗ owns (c : Thread nD τ) a6 fullShare (peak1 i a qr res cr)
            ∗ owns (c : Thread nD τ) a7 fullShare (k1_pay3 a)) -∗ K ⟨⟩))
      ⊢ wp frame (wpE (defs₀ (F := F)) Variants.none c none) E (cc1__qprop1_kernel i a1 h1 a2 h2 a3 h3 a4 h4 a5 h5 a6 h6 a7 h7) K := by
  simp only [cc1__qprop1_kernel_eq_skeleton]; unfold cc1__qprop1_kernel_skel
  simp only [k1_part1_eq_skeleton]
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, Hk⟩
  sl_exec
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists _; isplitr; swap; · iexact H5
                  ipureintro
                  unfold run1.sl.r_1 run1.sl.cst_19 sweep1
                  rw [View.read_writes_full, View.readAt_full, View.readAt_full, View.readAt_full, e1, e2, e4, ← e3]; rfl
  isplitl [H6]; · iexists _; isplitr; swap; · iexact H6
                  ipureintro
                  unfold run1.sl.r peak1
                  rw [View.read_writes_full, View.readAt_full, View.readAt_full, View.readAt_full, e1, e2, e4, ← e3]; rfl
  iexists _; isplitr; swap; · iexact H7
  ipureintro; rw [View.read_writes_full, View.readAt_full, e1]

/-! ## The third body: one sweep of one block of rows, in four phases of the outer coordinate -/

section Third

variable (i : grid2.Coords) (q : Vec F S400x10000 .fp8e4m3) (z1 : Vec F S10000x16 .fp8e4m3) (res : Vec F S10000x16 .f32) (c1 cr : Vec F S25x1x16 .f32)
variable (za zb : Vec F S10000x16 .fp8e4m3)

/-- The second scratch buffer after a point that found the two at `za` and `zb`: the sweeps of even outer coordinate write a block of it. -/
def nextB : Vec F S10000x16 .fp8e4m3 :=
  if h : k2_cond1 i = 1#1 then
    VecWindow.put zb (k2_off1 i) S400x16.size (k2_pay9 i c1 cr q z1 (VecWindow.window res (k2_off1 i) S400x16.size (k2_off1_inb i h)))
  else if h : k2_cond2 i = 1#1 then
    VecWindow.put zb (k2_off2 i) S400x16.size
      (k2_pay2 (k2_pay7 c1 cr) (k2_pay8 i c1 cr) q za (VecWindow.window res (k2_off2 i) S400x16.size (k2_off2_inb i h)))
  else zb

/-- The first scratch buffer after such a point: the sweeps of odd outer coordinate write a block of it. -/
def nextA : Vec F S10000x16 .fp8e4m3 :=
  if h : k2_cond4 i = 1#1 then
    VecWindow.put za (k2_off3 i) S400x16.size
      (k2_pay4 (k2_pay7 c1 cr) (k2_pay8 i c1 cr) q zb (VecWindow.window res (k2_off3 i) S400x16.size (k2_off3_inb i h)))
  else za

/-- The result's block after such a point that found it at `y`: the last sweep writes it. -/
def lastOut (y : Vec F S400x16 .f32) : Vec F S400x16 .f32 :=
  if h : k2_cond2 i = 1#1 then
    if k2_cond3 i = 1#1 then k2_pay3 (k2_pay8 i c1 cr) q za (VecWindow.window res (k2_off2 i) S400x16.size (k2_off2_inb i h)) else y
  else y

/-- The outer coordinate is in one of four phases: the first sweep, a later even one that is not the last, the last, an odd one. -/
theorem phases : ∀ t : Fin cfg2.N,
    (k2_cond1 (grid2.coords t) = 1#1 ∧ ¬k2_cond2 (grid2.coords t) = 1#1 ∧ ¬k2_cond4 (grid2.coords t) = 1#1)
      ∨ (¬k2_cond1 (grid2.coords t) = 1#1 ∧ k2_cond2 (grid2.coords t) = 1#1 ∧ ¬k2_cond3 (grid2.coords t) = 1#1 ∧ ¬k2_cond4 (grid2.coords t) = 1#1)
      ∨ (¬k2_cond1 (grid2.coords t) = 1#1 ∧ k2_cond2 (grid2.coords t) = 1#1 ∧ k2_cond3 (grid2.coords t) = 1#1 ∧ ¬k2_cond4 (grid2.coords t) = 1#1)
      ∨ (¬k2_cond1 (grid2.coords t) = 1#1 ∧ ¬k2_cond2 (grid2.coords t) = 1#1 ∧ k2_cond4 (grid2.coords t) = 1#1) :=
  (by decide +kernel : ∀ t : Fin grid2.N, _)

variable (c : Dev nD) (E : Set ℕ) (a2 : Memref sig .tc .vmem S400x10000 .fp8e4m3) (h2 : a2.IsWhole) (a3 : Memref sig .tc .vmem S10000x16 .fp8e4m3) (h3 : a3.IsWhole)
  (a4 : Memref sig .tc .vmem S10000x16 .f32) (h4 : a4.IsWhole) (a5 : Memref sig .tc .vmem S25x1x16 .f32) (h5 : a5.IsWhole)
  (a6 : Memref sig .tc .vmem S25x1x16 .f32) (h6 : a6.IsWhole) (a7 : Memref sig .tc .vmem S400x16 .f32) (h7 : a7.IsWhole)
  (a8 : Memref sig .tc .vmem S10000x16 .fp8e4m3) (h8 : a8.IsWhole) (a9 : Memref sig .tc .vmem S10000x16 .fp8e4m3) (h9 : a9.IsWhole)

/-- The buffers of the third body: the five operands as they are read, the result's block at `y`, the scratch buffers at `za` and `zb`. -/
def held2 (y : Vec F S400x16 .f32) (za zb : Vec F S10000x16 .fp8e4m3) : sProp 𝕄 :=
  iprop(owns (c : Thread nD τ) a2 fullShare q ∗ owns (c : Thread nD τ) a3 fullShare z1 ∗ owns (c : Thread nD τ) a4 fullShare res
    ∗ owns (c : Thread nD τ) a5 fullShare c1 ∗ owns (c : Thread nD τ) a6 fullShare cr ∗ owns (c : Thread nD τ) a7 fullShare y
    ∗ owns (c : Thread nD τ) a8 fullShare za ∗ owns (c : Thread nD τ) a9 fullShare zb)

variable (y : Vec F S400x16 .f32)

/-- A buffer at contents that read `X` is the buffer owned at `X`, spelt out. -/
theorem owns_intro {sp : Space} {sh : Shape} {e : EltTy} {m : Memref sig .tc sp sh e} {f : m.view.ty.Contents (Elt F)} {X : sh.Idx → Elt F e} (c : Dev nD)
    (hf : m.view.read (Elt F) f = X) :
    (m.view.loc (c : Thread nD τ) ↦[m.view.set]{fullShare} f) ⊢ (iprop(∃ f, ⌜m.view.read (Elt F) f = X⌝ ∗ (m.view.loc (c : Thread nD τ) ↦[m.view.set]{fullShare} f)) : sProp 𝕄) := by
  iintro H; iexists f; isplitr; · ipureintro; exact hf
  iexact H

set_option maxHeartbeats 1000000 in
/-- The first sweep reads the quantised iterate of the second body. -/
theorem run2_first (hc1 : k2_cond1 i = 1#1) (hc2 : ¬k2_cond2 i = 1#1) (hc4 : ¬k2_cond4 i = 1#1)
    (K : PUnit → sProp 𝕄) :
    iprop(held2 q z1 res c1 cr c a2 a3 a4 a5 a6 a7 a8 a9 y za zb
        ∗ (held2 q z1 res c1 cr c a2 a3 a4 a5 a6 a7 a8 a9 (lastOut i q res c1 cr za y) (nextA i q res c1 cr za zb) (nextB i q z1 res c1 cr za zb) -∗ K ⟨⟩))
      ⊢ wp frame (wpE (defs₀ (F := F)) Variants.none c none) E (cc2__mega_kernel i a2 h2 a3 h3 a4 h4 a5 h5 a6 h6 a7 h7 a8 h8 a9 h9) K := by
  simp only [cc2__mega_kernel_eq_skeleton]; unfold cc2__mega_kernel_skel
  simp only [k2_part1_eq_skeleton]
  unfold held2 owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  sl_exec
  sl_step
  iapply Hk
  isplitl [H2]; · iapply (owns_intro c e2); iexact H2
  isplitl [H3]; · iapply (owns_intro c e3); iexact H3
  isplitl [H4]; · iapply (owns_intro c e4); iexact H4
  isplitl [H5]; · iapply (owns_intro c e5); iexact H5
  isplitl [H6]; · iapply (owns_intro c e6); iexact H6
  isplitl [H7]
  · iapply (owns_intro c ?_)
    swap; · iexact H7
    rw [e7, lastOut, dif_neg hc2]
  isplitl [H8]
  · iapply (owns_intro c ?_)
    swap; · iexact H8
    rw [e8, nextA, dif_neg hc4]
  iapply (owns_intro c ?_)
  swap; · iexact H9
  rw [View.read_writes_cons_put _ _ _ _ _ rfl, View.writes_nil, e9, View.readAt_full, View.readAt_full, View.readAt_full, View.readAt_full, e2, e3, e5, e6, ← e4, nextB, dif_pos hc1]
  rfl

set_option maxHeartbeats 1000000 in
/-- A later even sweep that is not the last reads the first scratch buffer and writes the second. -/
theorem run2_even (hc1 : ¬k2_cond1 i = 1#1) (hc2 : k2_cond2 i = 1#1) (hc3 : ¬k2_cond3 i = 1#1) (hc4 : ¬k2_cond4 i = 1#1)
    (K : PUnit → sProp 𝕄) :
    iprop(held2 q z1 res c1 cr c a2 a3 a4 a5 a6 a7 a8 a9 y za zb
        ∗ (held2 q z1 res c1 cr c a2 a3 a4 a5 a6 a7 a8 a9 (lastOut i q res c1 cr za y) (nextA i q res c1 cr za zb) (nextB i q z1 res c1 cr za zb) -∗ K ⟨⟩))
      ⊢ wp frame (wpE (defs₀ (F := F)) Variants.none c none) E (cc2__mega_kernel i a2 h2 a3 h3 a4 h4 a5 h5 a6 h6 a7 h7 a8 h8 a9 h9) K := by
  simp only [cc2__mega_kernel_eq_skeleton]; unfold cc2__mega_kernel_skel
  simp only [k2_part1_eq_skeleton]
  unfold held2 owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  sl_exec
  sl_step
  iapply Hk
  isplitl [H2]; · iapply (owns_intro c e2); iexact H2
  isplitl [H3]; · iapply (owns_intro c e3); iexact H3
  isplitl [H4]; · iapply (owns_intro c e4); iexact H4
  isplitl [H5]; · iapply (owns_intro c e5); iexact H5
  isplitl [H6]; · iapply (owns_intro c e6); iexact H6
  isplitl [H7]
  · iapply (owns_intro c ?_)
    swap; · iexact H7
    rw [e7, lastOut, dif_pos hc2, if_neg hc3]
  isplitl [H8]
  · iapply (owns_intro c ?_)
    swap; · iexact H8
    rw [e8, nextA, dif_neg hc4]
  iapply (owns_intro c ?_)
  swap; · iexact H9
  rw [nextB, dif_neg hc1, dif_pos hc2]
  unfold run2_even.sl.r run2_even.sl.r_1 run2_even.sl.v58
  rw [View.read_writes_cons_put _ _ _ _ _ rfl, View.writes_nil, e9, View.readAt_full, View.readAt_full, View.readAt_full, View.readAt_full, e2, e5, e6, e8, ← e4]
  rfl

set_option maxHeartbeats 1000000 in
/-- The last sweep also writes the result's block. -/
theorem run2_last (hc1 : ¬k2_cond1 i = 1#1) (hc2 : k2_cond2 i = 1#1) (hc3 : k2_cond3 i = 1#1) (hc4 : ¬k2_cond4 i = 1#1)
    (K : PUnit → sProp 𝕄) :
    iprop(held2 q z1 res c1 cr c a2 a3 a4 a5 a6 a7 a8 a9 y za zb
        ∗ (held2 q z1 res c1 cr c a2 a3 a4 a5 a6 a7 a8 a9 (lastOut i q res c1 cr za y) (nextA i q res c1 cr za zb) (nextB i q z1 res c1 cr za zb) -∗ K ⟨⟩))
      ⊢ wp frame (wpE (defs₀ (F := F)) Variants.none c none) E (cc2__mega_kernel i a2 h2 a3 h3 a4 h4 a5 h5 a6 h6 a7 h7 a8 h8 a9 h9) K := by
  simp only [cc2__mega_kernel_eq_skeleton]; unfold cc2__mega_kernel_skel
  simp only [k2_part1_eq_skeleton]
  unfold held2 owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  sl_exec
  sl_step
  iapply Hk
  isplitl [H2]; · iapply (owns_intro c e2); iexact H2
  isplitl [H3]; · iapply (owns_intro c e3); iexact H3
  isplitl [H4]; · iapply (owns_intro c e4); iexact H4
  isplitl [H5]; · iapply (owns_intro c e5); iexact H5
  isplitl [H6]; · iapply (owns_intro c e6); iexact H6
  isplitl [H7]
  · iapply (owns_intro c ?_)
    swap; · iexact H7
    rw [lastOut, dif_pos hc2, if_pos hc3]
    unfold run2_last.sl.r_1 run2_last.sl.v58
    rw [View.read_writes_full, View.readAt_full, View.readAt_full, View.readAt_full, View.readAt_full, e2, e5, e6, e8, ← e4]
    rfl
  isplitl [H8]
  · iapply (owns_intro c ?_)
    swap; · iexact H8
    rw [e8, nextA, dif_neg hc4]
  iapply (owns_intro c ?_)
  swap; · iexact H9
  rw [nextB, dif_neg hc1, dif_pos hc2]
  unfold run2_last.sl.r run2_last.sl.r_1 run2_last.sl.v58
  rw [View.read_writes_cons_put _ _ _ _ _ rfl, View.writes_nil, e9, View.readAt_full, View.readAt_full, View.readAt_full, View.readAt_full, e2, e5, e6, e8, ← e4]
  rfl

set_option maxHeartbeats 1000000 in
/-- An odd sweep reads the second scratch buffer and writes the first. -/
theorem run2_odd (hc1 : ¬k2_cond1 i = 1#1) (hc2 : ¬k2_cond2 i = 1#1) (hc4 : k2_cond4 i = 1#1)
    (K : PUnit → sProp 𝕄) :
    iprop(held2 q z1 res c1 cr c a2 a3 a4 a5 a6 a7 a8 a9 y za zb
        ∗ (held2 q z1 res c1 cr c a2 a3 a4 a5 a6 a7 a8 a9 (lastOut i q res c1 cr za y) (nextA i q res c1 cr za zb) (nextB i q z1 res c1 cr za zb) -∗ K ⟨⟩))
      ⊢ wp frame (wpE (defs₀ (F := F)) Variants.none c none) E (cc2__mega_kernel i a2 h2 a3 h3 a4 h4 a5 h5 a6 h6 a7 h7 a8 h8 a9 h9) K := by
  simp only [cc2__mega_kernel_eq_skeleton]; unfold cc2__mega_kernel_skel
  simp only [k2_part1_eq_skeleton]
  unfold held2 owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  sl_exec
  sl_step
  iapply Hk
  isplitl [H2]; · iapply (owns_intro c e2); iexact H2
  isplitl [H3]; · iapply (owns_intro c e3); iexact H3
  isplitl [H4]; · iapply (owns_intro c e4); iexact H4
  isplitl [H5]; · iapply (owns_intro c e5); iexact H5
  isplitl [H6]; · iapply (owns_intro c e6); iexact H6
  isplitl [H7]
  · iapply (owns_intro c ?_)
    swap; · iexact H7
    rw [e7, lastOut, dif_neg hc2]
  isplitl [H8]
  · iapply (owns_intro c ?_)
    swap; · iexact H8
    rw [nextA, dif_pos hc4]
    unfold run2_odd.sl.r run2_odd.sl.r_1 run2_odd.sl.v58
    rw [View.read_writes_cons_put _ _ _ _ _ rfl, View.writes_nil, e8, View.readAt_full, View.readAt_full, View.readAt_full, View.readAt_full, e2, e5, e6, e9, ← e4]
    rfl
  iapply (owns_intro c ?_)
  swap; · iexact H9
  rw [e9, nextB, dif_neg hc1, dif_neg hc2]

/-- The third body at any point. -/
theorem run2 (t : Fin cfg2.N) (K : PUnit → sProp 𝕄) :
    iprop(held2 q z1 res c1 cr c a2 a3 a4 a5 a6 a7 a8 a9 y za zb
        ∗ (held2 q z1 res c1 cr c a2 a3 a4 a5 a6 a7 a8 a9 (lastOut (grid2.coords t) q res c1 cr za y) (nextA (grid2.coords t) q res c1 cr za zb)
            (nextB (grid2.coords t) q z1 res c1 cr za zb) -∗ K ⟨⟩))
      ⊢ wp frame (wpE (defs₀ (F := F)) Variants.none c none) E (cc2__mega_kernel (grid2.coords t) a2 h2 a3 h3 a4 h4 a5 h5 a6 h6 a7 h7 a8 h8 a9 h9) K := by
  rcases phases t with ⟨hc1, hc2, hc4⟩ | ⟨hc1, hc2, hc3, hc4⟩ | ⟨hc1, hc2, hc3, hc4⟩ | ⟨hc1, hc2, hc4⟩
  · exact run2_first _ q z1 res c1 cr za zb c E a2 h2 a3 h3 a4 h4 a5 h5 a6 h6 a7 h7 a8 h8 a9 h9 y hc1 hc2 hc4 K
  · exact run2_even _ q z1 res c1 cr za zb c E a2 h2 a3 h3 a4 h4 a5 h5 a6 h6 a7 h7 a8 h8 a9 h9 y hc1 hc2 hc3 hc4 K
  · exact run2_last _ q z1 res c1 cr za zb c E a2 h2 a3 h3 a4 h4 a5 h5 a6 h6 a7 h7 a8 h8 a9 h9 y hc1 hc2 hc3 hc4 K
  · exact run2_odd _ q z1 res c1 cr za zb c E a2 h2 a3 h3 a4 h4 a5 h5 a6 h6 a7 h7 a8 h8 a9 h9 y hc1 hc2 hc4 K

end Third

end Cert.KernelIdeal.Bodies

end
-- ==== Proof.KernelIdeal.Data.lean ====
/- The proof data of the three kernel regions, at the buffer contents `V` that a region is entered with.

   The first two regions' bodies store every output block whole, so what they leave is named block by block. The third region carries
   two scratch buffers from point to point: they start at contents nobody knows, and from those on every point is determined. `traj`
   follows them. The third region's result block is stored in the last sweep only, while every point writes it back, so what a point
   leaves there is held to a relation: the last sweep's store over whatever was there. -/
module

public import proofs.«01_k».proof.Proof.KernelIdeal.Bodies
public import Idealize.ShloMosaic.Lib.Pipeline.DatRel
public import Idealize.ShloMosaic.Lib.Pipeline.RegionsLoop
public import Idealize.ShloMosaic.Lib.Pipeline.FrameSuffix

@[expose] public section

set_option maxRecDepth 16384

noncomputable section

namespace Cert.KernelIdeal.Bodies

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The blocks the windows read -/

/-- A window's block at a point of the first region, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The same of the second region. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The same of the third region. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The scratch buffers along the third region -/

/-- The two scratch buffers after point `t` of the third region, from what they held before it. -/
def step (c : Dev nD) (t : Fin cfg2.N) (z : Vec F S10000x16 .fp8e4m3 × Vec F S10000x16 .fp8e4m3) : Vec F S10000x16 .fp8e4m3 × Vec F S10000x16 .fp8e4m3 :=
  (nextA (grid2.coords t) (blk2 V c 0 t) (blk2 V c 2 t) (blk2 V c 3 t) (blk2 V c 4 t) z.1 z.2,
   nextB (grid2.coords t) (blk2 V c 0 t) (blk2 V c 1 t) (blk2 V c 2 t) (blk2 V c 3 t) (blk2 V c 4 t) z.1 z.2)

/-- The two scratch buffers before point `n` of the third region, from what they held before the first. -/
def traj (c : Dev nD) (z : Vec F S10000x16 .fp8e4m3 × Vec F S10000x16 .fp8e4m3) : ℕ → Vec F S10000x16 .fp8e4m3 × Vec F S10000x16 .fp8e4m3
  | 0 => z
  | n + 1 => if h : n < cfg2.N then step V c ⟨n, h⟩ (traj c z n) else traj c z n

theorem traj_succ (c : Dev nD) (z) (t : Fin cfg2.N) : traj V c z (t.val + 1) = step V c t (traj V c z t.val) := by
  simp only [traj]; rw [dif_pos t.isLt]

/-- What the third region carries: the scratch buffers somewhere along the points, every other scoped buffer at anything, and the
    generator register. -/
def carried (c : Dev nD) (n : ℕ) : sProp 𝕄 :=
  iprop((∃ z : Vec F S10000x16 .fp8e4m3 × Vec F S10000x16 .fp8e4m3,
      owns (c : Thread nD τ) (Memref.whole cc2_scratch0) fullShare (traj V c z n).1
        ∗ owns (c : Thread nD τ) (Memref.whole cc2_scratch1) fullShare (traj V c z n).2)
    ∗ Pipeline.scopedRestBut spec2 c [cc2_scratch0, cc2_scratch1] ∗ ∃ r, prngReg c r)

/-- The scoped buffers of the third region, its two scratch buffers apart. -/
theorem scoped2 (c : Dev nD) : (Pipeline.scopedRest spec2 c : sProp 𝕄)
    = iprop(((∃ f : Buf (Elt F) ((c : Thread nD τ).loc cc2_scratch0), ((c : Thread nD τ).loc cc2_scratch0) ↦{fullShare} f)
        ∗ (∃ f : Buf (Elt F) ((c : Thread nD τ).loc cc2_scratch1), ((c : Thread nD τ).loc cc2_scratch1) ↦{fullShare} f))
      ∗ Pipeline.scopedRestBut spec2 c [cc2_scratch0, cc2_scratch1]) :=
  Pipeline.scopedRest_split_of_list spec2 c [cc2_scratch0, cc2_scratch1] (by decide) (by decide)

theorem carried_in (c : Dev nD) : iprop(Pipeline.scopedRest spec2 c ∗ ∃ r, prngReg c r) ⊢ carried V c 0 := by
  rw [scoped2]; unfold carried
  iintro ⟨⟨⟨⟨%f, Hf⟩, ⟨%g, Hg⟩⟩, Hr⟩, Hp⟩
  isplitl [Hf Hg]
  · iexists (f, g)
    show _ ⊢ iprop(owns (c : Thread nD τ) (Memref.whole cc2_scratch0) fullShare f ∗ owns (c : Thread nD τ) (Memref.whole cc2_scratch1) fullShare g)
    rw [owns_whole, owns_whole]
  isplitl [Hr] <;> iassumption

theorem carried_out (c : Dev nD) (n : ℕ) : carried V c n ⊢ iprop(Pipeline.scopedRest spec2 c ∗ ∃ r, prngReg c r) := by
  rw [scoped2]; unfold carried
  simp only [owns_whole]
  iintro ⟨⟨%z, Hf, Hg⟩, Hr, Hp⟩
  isplitr [Hp]
  · isplitr [Hr]
    · isplitl [Hf]
      · iexists (traj V c z n).1; iexact Hf
      iexists (traj V c z n).2; iexact Hg
    iexact Hr
  iexact Hp

/-! ## The data -/

/-- The first region's data: the operands' blocks stay, and the three results are the body's payloads. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => k0_pay1 (blk0 V c 0 t) (blk0 V c 1 t) (blk0 V c 2 t)
    | ⟨4, _⟩ => k0_pay3 (blk0 V c 0 t) (blk0 V c 1 t) (blk0 V c 2 t)
    | ⟨5, _⟩ => k0_pay4 (blk0 V c 0 t) (blk0 V c 1 t) (blk0 V c 2 t)
  Φ _ := Pipeline.ΦA spec0 c
  q _ := fullShare
  owed _ := 0

/-- The second region's data. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => sweep1 (grid1.coords t) (blk1 V c 0 t) (blk1 V c 1 t) (blk1 V c 2 t) (blk1 V c 3 t)
    | ⟨5, _⟩ => peak1 (grid1.coords t) (blk1 V c 0 t) (blk1 V c 1 t) (blk1 V c 2 t) (blk1 V c 3 t)
    | ⟨6, _⟩ => k1_pay3 (blk1 V c 0 t)
  Φ _ := Pipeline.ΦA spec1 c
  q _ := fullShare
  owed _ := 0

/-- The third region's data; what is said of its result's window here is not used. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
  Φ t := carried V c t.val
  q _ := fullShare
  owed _ := 0

/-- The third region's result window alone is held to a relation. -/
def mark2 (w : Fin cfg2.W) : Bool := decide (w = 5)

/-- What a point of the third region leaves in its result block: the last sweep's store over whatever was there. -/
def left2 (c : Dev nD) (t : Fin cfg2.N) (X : Vec F S400x16 .f32) : Prop :=
  ∃ z y, X = lastOut (grid2.coords t) (blk2 V c 0 t) (blk2 V c 2 t) (blk2 V c 3 t) (blk2 V c 4 t) (traj V c z t.val).1 y

/-- The relations that the third region's windows are held to. -/
def rel2 (c : Dev nD) : (w : Fin cfg2.W) → Fin cfg2.N → ((cfg2.win w).block.Idx → Elt F (cfg2.win w).elt) → Prop
  | ⟨5, _⟩ => left2 V c
  | _ => fun _ _ => True

theorem A0 (c : Dev nD) (w : Fin cfg0.W) : (dat0 V c).A w = V c (Pipeline.arrRef spec0 w) := rfl
theorem A1 (c : Dev nD) (w : Fin cfg1.W) : (dat1 V c).A w = V c (Pipeline.arrRef spec1 w) := rfl
theorem A2 (c : Dev nD) (w : Fin cfg2.W) : (dat2 V c).A w = V c (Pipeline.arrRef spec2 w) := rfl

/-! ## An operand's staging buffer holds its block at every point -/

theorem before0 (c : Dev nD) (t : Fin cfg0.N) :
    (∀ d, (dat0 V c).before 0 t d = blk0 V c 0 t) ∧ (∀ d, (dat0 V c).before 1 t d = blk0 V c 1 t) ∧ (∀ d, (dat0 V c).before 2 t d = blk0 V c 2 t) :=
  ⟨fun d => (dat0 V c).before_in_eq_fetched 0 rfl (fun _ => rfl) (fun _ _ _ => rfl) (fun _ => rfl) t d,
   fun d => (dat0 V c).before_in_eq_fetched 1 rfl (fun _ => rfl) (fun _ _ _ => rfl) (fun _ => rfl) t d,
   fun d => (dat0 V c).before_in_eq_fetched 2 rfl (fun _ => rfl) (fun _ _ _ => rfl) (fun _ => rfl) t d⟩

theorem before1 (c : Dev nD) (t : Fin cfg1.N) :
    (∀ d, (dat1 V c).before 0 t d = blk1 V c 0 t) ∧ (∀ d, (dat1 V c).before 1 t d = blk1 V c 1 t)
      ∧ (∀ d, (dat1 V c).before 2 t d = blk1 V c 2 t) ∧ (∀ d, (dat1 V c).before 3 t d = blk1 V c 3 t) :=
  ⟨fun d => (dat1 V c).before_in_eq_fetched 0 rfl (fun _ => rfl) (fun _ _ _ => rfl) (fun _ => rfl) t d,
   fun d => (dat1 V c).before_in_eq_fetched 1 rfl (fun _ => rfl) (fun _ _ _ => rfl) (fun _ => rfl) t d,
   fun d => (dat1 V c).before_in_eq_fetched 2 rfl (fun _ => rfl) (fun _ _ _ => rfl) (fun _ => rfl) t d,
   fun d => (dat1 V c).before_in_eq_fetched 3 rfl (fun _ => rfl) (fun _ _ _ => rfl) (fun _ => rfl) t d⟩

theorem before2 (c : Dev nD) (t : Fin cfg2.N) :
    (∀ d, (dat2 V c).before 0 t d = blk2 V c 0 t) ∧ (∀ d, (dat2 V c).before 1 t d = blk2 V c 1 t) ∧ (∀ d, (dat2 V c).before 2 t d = blk2 V c 2 t)
      ∧ (∀ d, (dat2 V c).before 3 t d = blk2 V c 3 t) ∧ (∀ d, (dat2 V c).before 4 t d = blk2 V c 4 t) :=
  ⟨fun d => (dat2 V c).before_in_eq_fetched 0 rfl (fun _ => rfl) (fun _ _ _ => rfl) (fun _ => rfl) t d,
   fun d => (dat2 V c).before_in_eq_fetched 1 rfl (fun _ => rfl) (fun _ _ _ => rfl) (fun _ => rfl) t d,
   fun d => (dat2 V c).before_in_eq_fetched 2 rfl (fun _ => rfl) (fun _ _ _ => rfl) (fun _ => rfl) t d,
   fun d => (dat2 V c).before_in_eq_fetched 3 rfl (fun _ => rfl) (fun _ _ _ => rfl) (fun _ => rfl) t d,
   fun d => (dat2 V c).before_in_eq_fetched 4 rfl (fun _ => rfl) (fun _ _ _ => rfl) (fun _ => rfl) t d⟩

/-! ## The bodies at a point -/

theorem row0 (t : Fin cfg0.N) : defs₀ (F := F) .tc cfg0.body (cfg0.bodyArgs t (cfg0.slots t)) = bodyAt0 t := by unfold defs₀; rw [Defs.onTc_tc]
theorem row1 (t : Fin cfg1.N) : defs₀ (F := F) .tc cfg1.body (cfg1.bodyArgs t (cfg1.slots t)) = bodyAt1 t := by unfold defs₀; rw [Defs.onTc_tc]
theorem row2 (t : Fin cfg2.N) : defs₀ (F := F) .tc cfg2.body (cfg2.bodyArgs t (cfg2.slots t)) = bodyAt2 t := by unfold defs₀; rw [Defs.onTc_tc]

/-- What the first region's point leaves in its three results. -/
theorem after0 (c : Dev nD) (t : Fin cfg0.N) :
    (dat0 V c).after 3 t = k0_pay1 (blk0 V c 0 t) (blk0 V c 1 t) (blk0 V c 2 t)
      ∧ (dat0 V c).after 4 t = k0_pay3 (blk0 V c 0 t) (blk0 V c 1 t) (blk0 V c 2 t)
      ∧ (dat0 V c).after 5 t = k0_pay4 (blk0 V c 0 t) (blk0 V c 1 t) (blk0 V c 2 t) := by
  refine ⟨?_, ?_, ?_⟩ <;> dsimp only [dat0]

theorem sound0 (c : Dev nD) (t : Fin cfg0.N) :
    iprop((dat0 V c).Φ t.castSucc ∗ (dat0 V c).owesAt () t.castSucc
        ∗ (∃ d, owns (c : Thread nD τ) (st0_0 t) fullShare ((dat0 V c).before 0 t d)) ∗ (∃ d, owns (c : Thread nD τ) (st0_1 t) fullShare ((dat0 V c).before 1 t d))
        ∗ (∃ d, owns (c : Thread nD τ) (st0_2 t) fullShare ((dat0 V c).before 2 t d)) ∗ (∃ d, owns (c : Thread nD τ) (st0_3 t) fullShare ((dat0 V c).before 3 t d))
        ∗ (∃ d, owns (c : Thread nD τ) (st0_4 t) fullShare ((dat0 V c).before 4 t d)) ∗ (∃ d, owns (c : Thread nD τ) (st0_5 t) fullShare ((dat0 V c).before 5 t d)))
      ⊢ wp frame (wpE (defs₀ (F := F)) Variants.none c none) Set.univ (bodyAt0 t) fun _ =>
        iprop((dat0 V c).Φ t.succ ∗ (dat0 V c).owesAt () t.succ
          ∗ owns (c : Thread nD τ) (st0_0 t) fullShare ((dat0 V c).after 0 t) ∗ owns (c : Thread nD τ) (st0_1 t) fullShare ((dat0 V c).after 1 t)
          ∗ owns (c : Thread nD τ) (st0_2 t) fullShare ((dat0 V c).after 2 t) ∗ owns (c : Thread nD τ) (st0_3 t) fullShare ((dat0 V c).after 3 t)
          ∗ owns (c : Thread nD τ) (st0_4 t) fullShare ((dat0 V c).after 4 t) ∗ owns (c : Thread nD τ) (st0_5 t) fullShare ((dat0 V c).after 5 t)) := by
  obtain ⟨b0, b1, b2⟩ := before0 V c t
  simp only [b0, b1, b2]
  rw [(after0 V c t).1, (after0 V c t).2.1, (after0 V c t).2.2,
    show (dat0 V c).Φ t.succ = (dat0 V c).Φ t.castSucc from rfl, show (dat0 V c).owesAt () t.succ = (dat0 V c).owesAt () t.castSucc from rfl]
  iintro ⟨HΦ, Ho, ⟨%_, H0⟩, ⟨%_, H1⟩, ⟨%_, H2⟩, ⟨%d3, H3⟩, ⟨%d4, H4⟩, ⟨%d5, H5⟩⟩
  iapply (run0 c Set.univ _ _ _ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem sound1 (c : Dev nD) (t : Fin cfg1.N) :
    iprop((dat1 V c).Φ t.castSucc ∗ (dat1 V c).owesAt () t.castSucc
        ∗ (∃ d, owns (c : Thread nD τ) (st1_0 t) fullShare ((dat1 V c).before 0 t d)) ∗ (∃ d, owns (c : Thread nD τ) (st1_1 t) fullShare ((dat1 V c).before 1 t d))
        ∗ (∃ d, owns (c : Thread nD τ) (st1_2 t) fullShare ((dat1 V c).before 2 t d)) ∗ (∃ d, owns (c : Thread nD τ) (st1_3 t) fullShare ((dat1 V c).before 3 t d))
        ∗ (∃ d, owns (c : Thread nD τ) (st1_4 t) fullShare ((dat1 V c).before 4 t d)) ∗ (∃ d, owns (c : Thread nD τ) (st1_5 t) fullShare ((dat1 V c).before 5 t d))
        ∗ (∃ d, owns (c : Thread nD τ) (st1_6 t) fullShare ((dat1 V c).before 6 t d)))
      ⊢ wp frame (wpE (defs₀ (F := F)) Variants.none c none) Set.univ (bodyAt1 t) fun _ =>
        iprop((dat1 V c).Φ t.succ ∗ (dat1 V c).owesAt () t.succ
          ∗ owns (c : Thread nD τ) (st1_0 t) fullShare ((dat1 V c).after 0 t) ∗ owns (c : Thread nD τ) (st1_1 t) fullShare ((dat1 V c).after 1 t)
          ∗ owns (c : Thread nD τ) (st1_2 t) fullShare ((dat1 V c).after 2 t) ∗ owns (c : Thread nD τ) (st1_3 t) fullShare ((dat1 V c).after 3 t)
          ∗ owns (c : Thread nD τ) (st1_4 t) fullShare ((dat1 V c).after 4 t) ∗ owns (c : Thread nD τ) (st1_5 t) fullShare ((dat1 V c).after 5 t)
          ∗ owns (c : Thread nD τ) (st1_6 t) fullShare ((dat1 V c).after 6 t)) := by
  obtain ⟨b0, b1, b2, b3⟩ := before1 V c t
  simp only [b0, b1, b2, b3]
  rw [show (dat1 V c).Φ t.succ = (dat1 V c).Φ t.castSucc from rfl, show (dat1 V c).owesAt () t.succ = (dat1 V c).owesAt () t.castSucc from rfl]
  iintro ⟨HΦ, Ho, ⟨%_, H0⟩, ⟨%_, H1⟩, ⟨%_, H2⟩, ⟨%_, H3⟩, ⟨%d4, H4⟩, ⟨%d5, H5⟩, ⟨%d6, H6⟩⟩
  iapply (run1 c Set.univ _ _ _ _ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro H
  isplitl [HΦ]; · iexact HΦ
  isplitl [Ho]; · iexact Ho
  iexact H

theorem sound2 (c : Dev nD) (t : Fin cfg2.N) :
    iprop((dat2 V c).Φ t.castSucc ∗ (dat2 V c).owesAt () t.castSucc
        ∗ (∃ d, owns (c : Thread nD τ) (st2_0 t) fullShare ((dat2 V c).before 0 t d)) ∗ (∃ d, owns (c : Thread nD τ) (st2_1 t) fullShare ((dat2 V c).before 1 t d))
        ∗ (∃ d, owns (c : Thread nD τ) (st2_2 t) fullShare ((dat2 V c).before 2 t d)) ∗ (∃ d, owns (c : Thread nD τ) (st2_3 t) fullShare ((dat2 V c).before 3 t d))
        ∗ (∃ d, owns (c : Thread nD τ) (st2_4 t) fullShare ((dat2 V c).before 4 t d))
        ∗ (∃ Y, ⌜((dat2 V c).toRRel mark2 (rel2 V c)).Finds 5 t Y⌝ ∗ owns (c : Thread nD τ) (st2_5 t) fullShare Y))
      ⊢ wp frame (wpE (defs₀ (F := F)) Variants.none c none) Set.univ (bodyAt2 t) fun _ =>
        iprop((dat2 V c).Φ t.succ ∗ (dat2 V c).owesAt () t.succ
          ∗ owns (c : Thread nD τ) (st2_0 t) fullShare ((dat2 V c).after 0 t) ∗ owns (c : Thread nD τ) (st2_1 t) fullShare ((dat2 V c).after 1 t)
          ∗ owns (c : Thread nD τ) (st2_2 t) fullShare ((dat2 V c).after 2 t) ∗ owns (c : Thread nD τ) (st2_3 t) fullShare ((dat2 V c).after 3 t)
          ∗ owns (c : Thread nD τ) (st2_4 t) fullShare ((dat2 V c).after 4 t)
          ∗ (∃ X, ⌜left2 V c t X⌝ ∗ owns (c : Thread nD τ) (st2_5 t) fullShare X)) := by
  obtain ⟨b0, b1, b2, b3, b4⟩ := before2 V c t
  simp only [b0, b1, b2, b3, b4]
  rw [show (dat2 V c).Φ t.castSucc = carried V c t.val from rfl, show (dat2 V c).Φ t.succ = carried V c (t.val + 1) from rfl]
  unfold carried
  iintro ⟨⟨⟨%z, Ha, Hb⟩, Hr, Hp⟩, Ho, ⟨%_, H0⟩, ⟨%_, H1⟩, ⟨%_, H2⟩, ⟨%_, H3⟩, ⟨%_, H4⟩, ⟨%y, -, H5⟩⟩
  iapply (run2 (blk2 V c 0 t) (blk2 V c 1 t) (blk2 V c 2 t) (blk2 V c 3 t) (blk2 V c 4 t) (traj V c z t.val).1 (traj V c z t.val).2 c Set.univ
    _ _ _ _ _ _ _ _ _ _ _ _ _ _ _ _ y t _)
  unfold held2
  isplitl [H0 H1 H2 H3 H4 H5 Ha Hb]
  · isplitl [H0]; · iexact H0
    isplitl [H1]; · iexact H1
    isplitl [H2]; · iexact H2
    isplitl [H3]; · iexact H3
    isplitl [H4]; · iexact H4
    isplitl [H5]; · iexact H5
    isplitl [Ha] <;> iassumption
  iintro ⟨H0, H1, H2, H3, H4, H5, Ha, Hb⟩
  isplitl [Ha Hb Hr Hp]
  · isplitl [Ha Hb]
    · iexists z
      rw [traj_succ]; unfold step
      isplitl [Ha] <;> iassumption
    isplitl [Hr] <;> iassumption
  isplitl [Ho]; · iexact Ho
  isplitl [H0]; · iexact H0
  isplitl [H1]; · iexact H1
  isplitl [H2]; · iexact H2
  isplitl [H3]; · iexact H3
  isplitl [H4]; · iexact H4
  iexists _
  isplitr; swap; · iexact H5
  ipureintro
  exact ⟨z, y, rfl⟩

/-! ## The obligations -/

theorem obligation0 (c : Dev nD) (Rl) : BodyObligationRel (dat0 V c) (defs₀ (F := F)) Variants.none () Set.univ (fun _ => false) Rl := fun t => by
  rw [bigSep_W0, bigSep_W0, row0]
  exact triple_restated (sound0 V c t) rfl .rfl fun _ => .rfl

theorem obligation1 (c : Dev nD) (Rl) : BodyObligationRel (dat1 V c) (defs₀ (F := F)) Variants.none () Set.univ (fun _ => false) Rl := fun t => by
  rw [bigSep_W1, bigSep_W1, row1]
  exact triple_restated (sound1 V c t) rfl .rfl fun _ => .rfl

theorem obligation2 (c : Dev nD) : BodyObligationRel (dat2 V c) (defs₀ (F := F)) Variants.none () Set.univ mark2 (rel2 V c) := fun t => by
  rw [bigSep_W2, bigSep_W2, row2]
  exact triple_restated (sound2 V c t) rfl .rfl fun _ => .rfl

end Cert.KernelIdeal.Bodies

end
-- ==== Proof.KernelIdeal.Run.lean ====
/- The run of the whole program: its three regions one after the other, each entered with the buffers as the one before left them.

   After the first two regions every buffer's contents are named (`M1`, `M2`). The third leaves its result array at some contents that its
   write-backs allow (`Left`), which is all that `run` says of it beside the arguments being as launched and every counter at zero. -/
module

public import proofs.«01_k».proof.Proof.KernelIdeal.Data
public import proofs.«01_k».proof.Proof.Region
public import Idealize.ShloMosaic.Lib.Ring
public import Idealize.ShloMosaic.Lib.WordCmp

@[expose] public section

set_option maxRecDepth 16384

noncomputable section

namespace Cert.KernelIdeal.Bodies

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers between the regions -/

/-- Every buffer at launch. -/
abbrev M0 (c : Dev nD) : Valuation τ sig (Elt F) := fun b => m ((c : Dev nD), b)
/-- The same, at the references of the core that runs the program. -/
abbrev V0 : (c : Dev nD) → (b : Ref sig .tc) → Buf (Elt F) ((c : Thread nD τ).loc b) := fun c b => M0 m c b
/-- Every buffer after the first region: its arrays at what its write-backs leave. -/
def M1 (c : Dev nD) : Valuation τ sig (Elt F) := Pipeline.withArrays spec0 c (M0 m c) fun w => (dat0 (V0 m) c).arrAt w cfg0.N
abbrev V1 : (c : Dev nD) → (b : Ref sig .tc) → Buf (Elt F) ((c : Thread nD τ).loc b) := fun c b => M1 m c b
/-- Every buffer after the second region. -/
def M2 (c : Dev nD) : Valuation τ sig (Elt F) := Pipeline.withArrays spec1 c (M1 m c) fun w => (dat1 (V1 m) c).arrAt w cfg1.N
abbrev V2 : (c : Dev nD) → (b : Ref sig .tc) → Buf (Elt F) ((c : Thread nD τ).loc b) := fun c b => M2 m c b

theorem M1_arr (c : Dev nD) (w : Fin cfg0.W) : M1 m c (Proc.devRef .tc (Pipeline.arrRef spec0 w)) = (dat0 (V0 m) c).arrAt w cfg0.N := by
  unfold M1; exact Pipeline.withArrays_arr spec0 launch0.win.arr_inj c _ _ w
theorem M1_of_ne (c : Dev nD) (b : Ref sig .tc) (hb : ∀ w, Pipeline.arrRef spec0 w ≠ b) : M1 m c (Proc.devRef .tc b) = M0 m c (Proc.devRef .tc b) := by
  unfold M1; exact Pipeline.withArrays_of_ne spec0 c _ _ b hb
theorem M2_arr (c : Dev nD) (w : Fin cfg1.W) : M2 m c (Proc.devRef .tc (Pipeline.arrRef spec1 w)) = (dat1 (V1 m) c).arrAt w cfg1.N := by
  unfold M2; exact Pipeline.withArrays_arr spec1 launch1.win.arr_inj c _ _ w
theorem M2_of_ne (c : Dev nD) (b : Ref sig .tc) (hb : ∀ w, Pipeline.arrRef spec1 w ≠ b) : M2 m c (Proc.devRef .tc b) = M1 m c (Proc.devRef .tc b) := by
  unfold M2; exact Pipeline.withArrays_of_ne spec1 c _ _ b hb

/-- The first region changes no buffer but its results. -/
theorem M1_of (c : Dev nD) (r : Ref sig .tc) (h : ∀ w : Fin cfg0.W, Pipeline.arrRef spec0 w = r → (cfg0.win w).isOut = false) :
    M1 m c (Proc.devRef .tc r) = M0 m c (Proc.devRef .tc r) := by
  by_cases hw : ∃ w : Fin cfg0.W, Pipeline.arrRef spec0 w = r
  · obtain ⟨w, rfl⟩ := hw
    exact (M1_arr m c w).trans ((dat0 (V0 m) c).arrAt_in w (h w rfl) _)
  · exact M1_of_ne m c r fun w e => hw ⟨w, e⟩
/-- The second region changes no buffer but its results. -/
theorem M2_of (c : Dev nD) (r : Ref sig .tc) (h : ∀ w : Fin cfg1.W, Pipeline.arrRef spec1 w = r → (cfg1.win w).isOut = false) :
    M2 m c (Proc.devRef .tc r) = M1 m c (Proc.devRef .tc r) := by
  by_cases hw : ∃ w : Fin cfg1.W, Pipeline.arrRef spec1 w = r
  · obtain ⟨w, rfl⟩ := hw
    exact (M2_arr m c w).trans ((dat1 (V1 m) c).arrAt_in w (h w rfl) _)
  · exact M2_of_ne m c r fun w e => hw ⟨w, e⟩

/-! ## The regions as segments -/

/-- No pipeline has a prefetched table. -/
abbrev adm : (p : Fin 3) → (pcfgs (F := F) p).Adm := fun p => (cfgs p).toPCfg_adm

/-- Every region's data, each at the contents it is entered with. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c

/-- The windows held to a relation: the third region's result. -/
def marks : (p : Fin 3) → Fin (Pipeline.pin (pcfgs (F := F)) adm p).W → Bool
  | ⟨0, _⟩ => fun _ => false
  | ⟨1, _⟩ => fun _ => false
  | ⟨2, _⟩ => mark2

/-- The relations. -/
def relations : (p : Fin 3) → (c : Dev nD) → (w : Fin (Pipeline.pin (pcfgs (F := F)) adm p).W) → Fin (Pipeline.pin (pcfgs (F := F)) adm p).N →
    (((Pipeline.pin (pcfgs (F := F)) adm p).win w).block.Idx → Elt F ((Pipeline.pin (pcfgs (F := F)) adm p).win w).elt) → Prop
  | ⟨0, _⟩ => fun _ _ _ _ => True
  | ⟨1, _⟩ => fun _ _ _ _ => True
  | ⟨2, _⟩ => fun c => rel2 (V2 m) c

abbrev 𝒱₀ : Variants := Variants.none
/-- No core owes another anything: no level is assigned. -/
abbrev L : GSem nD τ sig → Finset Unit := fun _ => ∅
abbrev lv : GSem nD τ sig → Unit → ℕ := fun _ _ => 0

/-- The data as the run reads them. -/
abbrev rdats : (p : Fin 3) → (c : Dev nD) → RDat τ (Elt F) Unit ℕ (UR sig nD τ) ℕ (Pipeline.pin (pcfgs (F := F)) adm p) c :=
  Shared.rels (pcfgs (F := F)) adm (pdats m) marks (relations m)

/-- What the third region may leave in an array. -/
abbrev Left (c : Dev nD) (w : Fin cfg2.W) (A : Buf (Elt F) ((cfg2.win w).arr.view.loc (c : Thread nD τ))) : Prop :=
  ((dat2 (V2 m) c).toRRel mark2 (rel2 (V2 m) c)).ArrAt w cfg2.N A

/-- The last thread state, the core's debts apart: every buffer as the third region was entered, its arrays at contents it may leave. -/
abbrev Tₙ (c : Dev nD) : sProp 𝕄 :=
  iprop(∃ A : (w : Fin cfg2.W) → Buf (Elt F) ((cfg2.win w).arr.view.loc (c : Thread nD τ)),
    ⌜∀ w, Left m c w (A w)⌝ ∗ StableHlo.held (c : Thread nD τ) (Pipeline.ucRefs τ sig) (Pipeline.withArrays spec2 c (M2 m c) A) ∗ ∃ r, prngReg c r)

set_option backward.isDefEq.respectTransparency.types false in
/-- The first region: entered as launched, left with its results named. -/
def reg0 : RDat.RegionSeg (pcfgs (F := F)) adm (rdats m) () defs₀ 𝒱₀ L lv 0 :=
  Shared.regionOf (pcfgs (F := F)) adm (pdats m) marks (relations m) defs₀ 𝒱₀ L lv 0 launch0.win launch0.block_pos launch0.arr_whole launch0.stage_whole rfl
    (fun c => (obligation0 (V0 m) c _).toRRel) (fun _ _ => rfl) (fun _ => rfl) (fun c => (pdats m 0 c).share_full fun _ => rfl)
    (fun _ => .rfl) (fun _ => .rfl) (M0 m) (fun _ _ => rfl)
    (fun c => iprop(StableHlo.held (c : Thread nD τ) (Pipeline.ucRefs τ sig) (M1 m c) ∗ Shared.rides c))
    (fun c A hA => by
      rw [show A = fun w => (dat0 (V0 m) c).arrAt w cfg0.N from funext fun w => (dat0 (V0 m) c).toR_arrAt w _ _ (hA w)]
      exact .rfl)

set_option backward.isDefEq.respectTransparency.types false in
/-- The second region. -/
def reg1 : RDat.RegionSeg (pcfgs (F := F)) adm (rdats m) () defs₀ 𝒱₀ L lv 1 :=
  Shared.regionOf (pcfgs (F := F)) adm (pdats m) marks (relations m) defs₀ 𝒱₀ L lv 1 launch1.win launch1.block_pos launch1.arr_whole launch1.stage_whole rfl
    (fun c => (obligation1 (V1 m) c _).toRRel) (fun _ _ => rfl) (fun _ => rfl) (fun c => (pdats m 1 c).share_full fun _ => rfl)
    (fun _ => .rfl) (fun _ => .rfl) (M1 m) (fun _ _ => rfl)
    (fun c => iprop(StableHlo.held (c : Thread nD τ) (Pipeline.ucRefs τ sig) (M2 m c) ∗ Shared.rides c))
    (fun c A hA => by
      rw [show A = fun w => (dat1 (V1 m) c).arrAt w cfg1.N from funext fun w => (dat1 (V1 m) c).toR_arrAt w _ _ (hA w)]
      exact .rfl)

set_option backward.isDefEq.respectTransparency.types false in
/-- The third region: left with its arrays at contents it may leave. -/
def reg2 : RDat.RegionSeg (pcfgs (F := F)) adm (rdats m) () defs₀ 𝒱₀ L lv 2 :=
  Shared.regionOf (pcfgs (F := F)) adm (pdats m) marks (relations m) defs₀ 𝒱₀ L lv 2 launch2.win launch2.block_pos launch2.arr_whole launch2.stage_whole rfl
    (fun c => (obligation2 (V2 m) c).toRRel) (fun _ _ => rfl) (fun _ => rfl) (fun c => (pdats m 2 c).share_full fun _ => rfl)
    (fun c => carried_in (V2 m) c) (fun c => carried_out (V2 m) c cfg2.N) (M2 m) (fun _ _ => rfl)
    (fun c => iprop(Tₙ m c ∗ ∃ W, owes (c : Thread nD τ) (0 : CellTallies nD τ sig Unit) W))
    (fun c A hA => by
      iintro ⟨Hh, Hp, HO⟩
      isplitr [HO]; swap; · iexact HO
      iexists A
      isplitr; · ipureintro; exact hA
      isplitl [Hh] <;> iassumption)

/-! ## The launch -/

/-- The program's segments in order. -/
abbrev segs : List (RDat.Seg (pcfgs (F := F)) adm (rdats m) () defs₀ 𝒱₀ L lv) := [.region (reg0 m), .region (reg1 m), .region (reg2 m)]

/-- The program is the run of its segments. -/
theorem main_run (c : Dev nD) : main (F := F) c = RDat.Seg.run (segs m) := (main_chain c).trans (by chain_rfl)

theorem no_unscoped : ∀ sm : SemLoc sig, sm.isScoped .tc = true := by decide

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The argument arrays. -/
abbrev argRefs : List (Ref sig .tc) := [main_arg0, main_arg1, main_arg2, main_arg3]
theorem args0 : ∀ a ∈ argRefs, ∀ w : Fin cfg0.W, Pipeline.arrRef spec0 w = a → (cfg0.win w).isOut = false :=
  ListAll.forall_mem_of_all_decide (by decide +kernel)
theorem args1 : ∀ a ∈ argRefs, ∀ w : Fin cfg1.W, Pipeline.arrRef spec1 w = a → (cfg1.win w).isOut = false :=
  ListAll.forall_mem_of_all_decide (by decide +kernel)
theorem args2 : ∀ a ∈ argRefs, ∀ w : Fin cfg2.W, Pipeline.arrRef spec2 w ≠ a :=
  ListAll.forall_mem_of_all_decide (by decide +kernel)

/-- An argument array is as launched at the end. -/
theorem args_end (c : Dev nD) (A) (a : Ref sig .tc) (ha : a ∈ argRefs) :
    Pipeline.withArrays spec2 c (M2 m c) A (Proc.devRef .tc a) = m ((c : Thread nD τ).loc a) :=
  (Pipeline.withArrays_of_ne spec2 c _ _ a (args2 a ha)).trans ((M2_of m c a (args1 a ha)).trans (M1_of m c a (args0 a ha)))

set_option backward.isDefEq.respectTransparency.types false in
/-- The run: it terminates without a fault, the argument arrays end as launched, the result array ends at contents that the third region may
    leave, and every counter ends at zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ Left m c 5 (r.2.mem ((c.tc : Thread nD τ).loc main_v0)))
      ∧ r.2.sem = fun _ => 0) :=
  RDat.θ_run_regions_kit_sems (pcfgs (F := F)) adm (rdats m) () cellOf_inj emb₁ defs₀ 𝒱₀ L lv m ρ main (segs m)
    (fun c Q => by rw [main_run m c])
    (by simp only [segs, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (M0 m c) ∗ Shared.rides c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (M0 m c)
        from Pipeline.unscopedBufs_held c (M0 m c)]
      iintro ⟨⟨Hh, -, HO, -, Hp, -⟩, -⟩
      imodintro
      isplitl [Hh]; · iexact Hh
      isplitl [Hp]; · iexists _; iexact Hp
      iexists ∅; iexact HO)
    (QY := fun c s => ∃ A : (w : Fin cfg2.W) → Buf (Elt F) ((cfg2.win w).arr.view.loc (c : Thread nD τ)),
      (∀ w, Left m c w (A w)) ∧ ∀ b ∈ Pipeline.ucRefs τ sig, s.mem (((c : Thread nD τ)).1, b) = Pipeline.withArrays spec2 c (M2 m c) A b)
    (hfin := fun c s' => by
      iintro ⟨⟨%A, %hA, Hh, -⟩, HSI⟩
      unfold StableHlo.held
      ihave H := (pointsTo_read_all (Pipeline.ucRefs τ sig) (fun b => (((c : Thread nD τ)).1, b)) (Pipeline.withArrays spec2 c (M2 m c) A) s') $$ [Hh HSI]
      · isplitl [Hh] <;> iassumption
      icases H with ⟨%hr, HSI⟩
      imodintro
      isplitr
      · ipureintro; exact ⟨A, hA, hr⟩
      iexact HSI)
    (hQ := fun s h hz => ⟨(fun c => by
      obtain ⟨A, hA, hr⟩ := h c
      refine ⟨⟨(hr _ (mem_uc main_arg0 (by decide))).trans (args_end m c A main_arg0 (by decide)),
        (hr _ (mem_uc main_arg1 (by decide))).trans (args_end m c A main_arg1 (by decide)),
        (hr _ (mem_uc main_arg2 (by decide))).trans (args_end m c A main_arg2 (by decide)),
        (hr _ (mem_uc main_arg3 (by decide))).trans (args_end m c A main_arg3 (by decide))⟩, ?_⟩
      have e : s.mem ((c.tc : Thread nD τ).loc main_v0) = A 5 :=
        (hr _ (mem_uc main_v0 (by decide))).trans (Pipeline.withArrays_arr spec2 launch2.win.arr_inj c (M2 m c) A 5)
      show Left m c 5 (s.mem ((c.tc : Thread nD τ).loc main_v0))
      rw [e]; exact hA 5), funext fun g => hz g (.inr (no_unscoped g.2))⟩)

/-- The run without what is said of the result. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).1, h.2⟩) (run m ρ)

end Cert.KernelIdeal.Bodies

end
-- ==== Proof.Frames.lean ====
/- The claims about one program alone: each of the three programs runs, leaves its arguments and ends quiescent; the idealised kernel is the
   kernel with one literal named. -/
module

public import proofs.«01_k».proof.Defs
public import proofs.«01_k».proof.Proof.Kernel.Run
public import proofs.«01_k».proof.Proof.KernelIdeal.Run
public import proofs.«01_k».proof.Proof.Gen.ReferenceIdeal.Run
public import Idealize.ShloMosaic.Lib.Quiescent

@[expose] public section

noncomputable section

namespace Cert.Shared

open Idealize.ShloMosaic Idealize.SL.Sem

/-- What the precondition's text assumes of its shapes. -/
instance preFacts : Cert.Pre_small_adjacency.Facts where
  bcast_S_S10000x256 := by decide
  bcast_S_S10000x10000 := by decide
  bcast_S_S256x64 := by decide
  bcast_S_S64x16 := by decide

theorem frame_kernel : Cert.quiescent_Kernel := fun m ρ _ => Cert.Kernel.Bodies.frame m ρ
theorem frame_ideal : Cert.quiescent_KernelIdeal := fun m ρ _ => Cert.KernelIdeal.Bodies.frame m ρ
theorem frame_ideal_pre : Cert.quiescent_KernelIdeal_pre_small_adjacency := fun m ρ _ => Cert.KernelIdeal.Bodies.frame m ρ

/-- The reference has no semaphore, so every counter is at zero at its end. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_reference_pre : Cert.quiescent_ReferenceIdeal_pre_small_adjacency := fun m ρ _ => frame_reference m ρ trivial

/-- The named literal is 1/368640000 in the idealised kernel. -/
theorem preserves : Cert.preserves_Kernel_KernelIdeal :=
  IdealRules.named_const.statement Cert.KernelIdeal.κ "inv_scale" .f32 0x313A69DC#32 ((1 / 368640000 : ℝ) : EReal) rfl

end Cert.Shared

end
-- ==== Proof.Value.Real.lean ====
/- The mathematics, apart from any program: the relaxation over the reals, what bounds its iterates, and the extended-real steps by which a
   scaled, clipped iterate is again a scaled iterate. -/
module

public import Idealize.ShloMosaic.Lib.Pointwise

@[expose] public section

noncomputable section

namespace Cert.Value

open Idealize.ShloMosaic

/-! ## The literals -/

/-- The restart weight, as its literal has it. -/
def alpha : ℝ := 13421773 / 134217728
/-- The floor under a scale. -/
def tiny : ℝ := 10633824 * (2 : ℝ) ^ (-123 : ℤ)

theorem tiny_pos : 0 < tiny := by unfold tiny; positivity
theorem alpha_pos : 0 < alpha := by unfold alpha; norm_num

theorem lit_alpha : Ideal.ofBits FTy.f32 0x3DCCCCCD#32 = (alpha : EReal) := by
  simp [Ideal.ofBits, Ideal.ieee, alpha]; norm_num [zpow_neg, ← EReal.coe_mul]
theorem lit_tiny : Ideal.ofBits FTy.f32 0x0DA24260#32 = (tiny : EReal) := by
  simp [Ideal.ofBits, Ideal.ieee, tiny]
theorem lit_192 : Ideal.ofBits FTy.f32 0x43400000#32 = ((192 : ℝ) : EReal) := by
  simp [Ideal.ofBits, Ideal.ieee]; norm_num [zpow_neg, ← EReal.coe_mul]
theorem lit_448 : Ideal.ofBits FTy.f32 0x43E00000#32 = ((448 : ℝ) : EReal) := by
  simp [Ideal.ofBits, Ideal.ieee]; norm_num [zpow_neg, ← EReal.coe_mul]
theorem lit_neg448 : Ideal.ofBits FTy.f32 0xC3E00000#32 = ((-448 : ℝ) : EReal) := by
  simp [Ideal.ofBits, Ideal.ieee]; norm_num [zpow_neg, ← EReal.coe_mul]
theorem lit_2 : Ideal.ofBits FTy.f32 0x40000000#32 = ((2 : ℝ) : EReal) := by
  simp [Ideal.ofBits, Ideal.ieee]; norm_num [zpow_neg, ← EReal.coe_mul]
theorem lit_scale : Ideal.ofBits FTy.f32 0x49EA6000#32 = ((1920000 : ℝ) : EReal) := by
  simp [Ideal.ofBits, Ideal.ieee]; norm_num [zpow_neg, ← EReal.coe_mul]
theorem lit_nodes : Ideal.ofBits FTy.f32 0x461C4000#32 = ((10000 : ℝ) : EReal) := by
  simp [Ideal.ofBits, Ideal.ieee]; norm_num [zpow_neg, ← EReal.coe_mul]
theorem lit_bot : Ideal.ofBits FTy.f32 0xFF800000#32 = (⊥ : EReal) := by simp [Ideal.ofBits, Ideal.ieee]
theorem lit_top : Ideal.ofBits FTy.f32 0x7F800000#32 = (⊤ : EReal) := by simp [Ideal.ofBits, Ideal.ieee]

/-! ## The relaxation -/

/-- The iterates: each is the adjacency applied to the one before, with a share of the start added back. -/
def relax (A : Fin 10000 → Fin 10000 → ℝ) (r : Fin 10000 → Fin 16 → ℝ) : ℕ → Fin 10000 → Fin 16 → ℝ
  | 0 => r
  | k + 1 => fun i c => (∑ j, A i j * relax A r k j c) + alpha * r i c

/-- One iteration adds at most the weight times the start's bound. -/
theorem relax_bound (A : Fin 10000 → Fin 10000 → ℝ) (r : Fin 10000 → Fin 16 → ℝ) (S : Fin 16 → ℝ)
    (hA : ∀ i j, |A i j| ≤ 1 / 10000) (hr : ∀ i c, |r i c| ≤ S c) (k : ℕ) (i : Fin 10000) (c : Fin 16) :
    |relax A r k i c| ≤ (1 + k * alpha) * S c := by
  have hS : 0 ≤ S c := (abs_nonneg _).trans (hr i c)
  have ha := alpha_pos
  induction k generalizing i with
  | zero => simpa [relax] using hr i c
  | succ k ih =>
    have hB : 0 ≤ (1 + k * alpha) * S c := by positivity
    have h1 : |∑ j, A i j * relax A r k j c| ≤ (1 + k * alpha) * S c := by
      refine (Finset.abs_sum_le_sum_abs _ _).trans ?_
      refine (Finset.sum_le_sum fun j _ => (?_ : _ ≤ (1 / 10000 : ℝ) * ((1 + k * alpha) * S c))).trans ?_
      · rw [abs_mul]; exact mul_le_mul (hA i j) (ih j) (abs_nonneg _) (by norm_num)
      · rw [Finset.sum_const, Finset.card_univ, Fintype.card_fin, nsmul_eq_mul]; push_cast; linarith
    have h2 : |alpha * r i c| ≤ alpha * S c := by
      rw [abs_mul, abs_of_pos ha]; exact mul_le_mul_of_nonneg_left (hr i c) ha.le
    have h3 := abs_add_le (∑ j, A i j * relax A r k j c) (alpha * r i c)
    simp only [relax]
    push_cast
    linarith

/-- The first ten iterates stay under nine quarters of the start's bound, which no clip reaches. -/
theorem relax_le (A : Fin 10000 → Fin 10000 → ℝ) (r : Fin 10000 → Fin 16 → ℝ) (S : Fin 16 → ℝ)
    (hA : ∀ i j, |A i j| ≤ 1 / 10000) (hr : ∀ i c, |r i c| ≤ S c) (k : ℕ) (hk : k ≤ 10) (i : Fin 10000) (c : Fin 16) :
    |relax A r k i c| ≤ 9 / 4 * S c := by
  have hS : 0 ≤ S c := (abs_nonneg _).trans (hr i c)
  refine (relax_bound A r S hA hr k i c).trans (mul_le_mul_of_nonneg_right ?_ hS)
  have hk' : (k : ℝ) ≤ 10 := by exact_mod_cast hk
  have : (k : ℝ) * alpha ≤ 10 * alpha := mul_le_mul_of_nonneg_right hk' alpha_pos.le
  unfold alpha at *; linarith

/-! ## The steps over the extended reals -/

/-- A sum of products of real numbers is real. -/
theorem sum_coe {n : ℕ} (f g : Fin n → ℝ) : (∑ x, ((f x : ℝ) : EReal) * ((g x : ℝ) : EReal)) = ((∑ x, f x * g x : ℝ) : EReal) := by
  induction (Finset.univ : Finset (Fin n)) using Finset.induction_on with
  | empty => simp
  | insert x t hx ih => rw [Finset.sum_insert hx, Finset.sum_insert hx, ih, ← EReal.coe_mul, ← EReal.coe_add]

/-- The scaled products, unscaled, with the restart added, are one step of the relaxation. -/
theorem step_val {n : ℕ} (a g : Fin n → ℝ) (s ρ : ℝ) (hs : s ≠ 0) :
    (∑ x, ((a x * 1920000 : ℝ) : EReal) * ((g x * (192 / s) : ℝ) : EReal)) * ((s : EReal) * ((1 / 368640000 : ℝ) : EReal)) + (alpha : EReal) * (ρ : EReal)
      = (((∑ x, a x * g x) + alpha * ρ : ℝ) : EReal) := by
  rw [sum_coe, ← EReal.coe_mul, ← EReal.coe_mul, ← EReal.coe_mul, ← EReal.coe_add]
  congr 2
  rw [Finset.sum_mul]
  refine Finset.sum_congr rfl fun x _ => ?_
  field_simp
  ring

/-- A clip that the scaled value does not reach changes nothing. -/
theorem clip_val (y s : ℝ) (hs : 0 < s) (h : |y| * 192 ≤ 448 * s) :
    min ((448 : ℝ) : EReal) (max ((-448 : ℝ) : EReal) ((y : EReal) * Ideal.div ((192 : ℝ) : EReal) (s : EReal))) = ((y * (192 / s) : ℝ) : EReal) := by
  rw [Ideal.div_coe hs.ne', ← EReal.coe_mul, ← EReal.coe_mul, mul_one_div]
  have hb : |y * (192 / s)| ≤ 448 := by
    rw [abs_mul, abs_of_pos (by positivity : (0 : ℝ) < 192 / s), ← mul_div_assoc, div_le_iff₀ hs]; exact h
  obtain ⟨h1, h2⟩ := abs_le.mp hb
  rw [max_eq_right (EReal.coe_le_coe_iff.mpr h1), min_eq_right (EReal.coe_le_coe_iff.mpr h2)]

/-- The same of a product. -/
theorem clip_mul (y m : ℝ) (h : |y * m| ≤ 448) :
    min ((448 : ℝ) : EReal) (max ((-448 : ℝ) : EReal) ((y : EReal) * ((m : ℝ) : EReal))) = ((y * m : ℝ) : EReal) := by
  rw [← EReal.coe_mul]
  obtain ⟨h1, h2⟩ := abs_le.mp h
  rw [max_eq_right (EReal.coe_le_coe_iff.mpr h1), min_eq_right (EReal.coe_le_coe_iff.mpr h2)]

/-- An absolute value of a real number. -/
theorem abs_coe (a : ℝ) : max (a : EReal) (-(a : EReal)) = ((|a| : ℝ) : EReal) := by
  rw [← EReal.coe_neg]; exact (EReal.coe_strictMono.monotone.map_max).symm

/-- The largest of finitely many nonnegative real numbers is one, and none of them is larger. -/
theorem fold_max {n : ℕ} (f : Fin (n + 1) → EReal) (g : Fin (n + 1) → ℝ) (hf : ∀ x, f x = (g x : EReal)) (hg : ∀ x, 0 ≤ g x) :
    ∃ p : ℝ, Finset.fold max (⊥ : EReal) f Finset.univ = (p : EReal) ∧ 0 ≤ p ∧ ∀ x, g x ≤ p := by
  obtain ⟨x, -, hx⟩ := Finset.exists_mem_eq_sup Finset.univ Finset.univ_nonempty f
  have e : Finset.fold max (⊥ : EReal) f Finset.univ = Finset.univ.sup f := rfl
  refine ⟨g x, by rw [e, hx, hf], hg x, fun y => ?_⟩
  have hy : f y ≤ Finset.univ.sup f := Finset.le_sup (Finset.mem_univ y)
  rw [hx, hf, hf] at hy
  exact EReal.coe_le_coe_iff.mp hy

/-- An extended real whose absolute value is below infinity is real. -/
theorem real_of_abs_lt (x : EReal) (h : max x (-x) < ⊤) : x = ((x.toReal : ℝ) : EReal) := by
  refine (EReal.coe_toReal ?_ ?_).symm
  · rintro rfl; simp at h
  · rintro rfl; simp at h

end Cert.Value

end
-- ==== Proof.Value.Pay.lean ====
/- The three bodies' payloads at an index, over the extended reals, when what they read is real: a sweep's payload is one step of the
   relaxation, and its stored code is that step times the scale. -/
module

public import proofs.«01_k».proof.Proof.KernelIdeal.Bodies
public import proofs.«01_k».proof.Proof.Value.Real

@[expose] public section

noncomputable section

namespace Cert.Value

open Cert.KernelIdeal Cert.KernelIdeal.Gen
open Idealize.ShloMosaic Idealize.ShloMosaic.Pointwise

/-- The named literal. -/
theorem lit_inv (b : BitVec FTy.f32.bits) : Named.named (F := Ideal) κ "inv_scale" b = ((1 / 368640000 : ℝ) : EReal) :=
  IdealRules.named_const.ideal_named_scalar _ _ _ _ rfl

theorem absf_coe (a : ℝ) : FloatOps.absf (F := Ideal) (φ := .f32) ((a : EReal)) = ((|a| : ℝ) : EReal) := abs_coe a

/-! ## The first body -/

section First

variable (x : Vec Ideal S10000x256 .f32) (w1 : Vec Ideal S256x64 .f32) (w2 : Vec Ideal S64x16 .f32)

/-- The two products with the rectifier between them, entry by entry. -/
theorem dense_apply (r : Fin 10000) (c : Fin 16) :
    k0_pay1 x w1 w2 (ix2 r c) = ∑ h : Fin 64, max (∑ k : Fin 256, x (ix2 r k) * w1 (ix2 k h)) 0 * w2 (ix2 h c) := by
  pointwise [k0_pay1]

/-- Of real operands they are real. -/
theorem dense_real (X : Fin 10000 → Fin 256 → ℝ) (W : Fin 256 → Fin 64 → ℝ) (U : Fin 64 → Fin 16 → ℝ)
    (hx : ∀ i k, x (ix2 i k) = (X i k : EReal)) (hw : ∀ k h, w1 (ix2 k h) = (W k h : EReal)) (hu : ∀ h c, w2 (ix2 h c) = (U h c : EReal))
    (r : Fin 10000) (c : Fin 16) :
    k0_pay1 x w1 w2 (ix2 r c) = ((∑ h, max (∑ k, X r k * W k h) 0 * U h c : ℝ) : EReal) := by
  rw [dense_apply]
  simp only [hx, hw, hu, sum_coe]
  rw [← sum_coe (fun h => max (∑ k, X r k * W k h) 0) (fun h => U h c)]
  refine Finset.sum_congr rfl fun h _ => ?_
  rw [← EReal.coe_zero, EReal.coe_strictMono.monotone.map_max]

variable (r : Fin 10000 → Fin 16 → ℝ) (hr : ∀ i c, k0_pay1 x w1 w2 (ix2 i c) = (r i c : EReal))

include hr in
/-- The column maxima of the absolute values: real, and over every entry. -/
theorem peak0 (c : Fin 16) : ∃ p : ℝ, k0_pay2 x w1 w2 (ix2 0 c) = (p : EReal) ∧ 0 ≤ p ∧ ∀ i, |r i c| ≤ p := by
  have e : k0_pay2 x w1 w2 (ix2 0 c) = Finset.fold max (⊥ : EReal) (fun i => FloatOps.absf (F := Ideal) (φ := .f32) (k0_pay1 x w1 w2 (ix2 i c))) Finset.univ := by
    pointwise [k0_pay2]
    rw [show Ideal.ofBits FTy.f32 4286578688#32 = (⊥ : EReal) from lit_bot]
  rw [e]
  exact fold_max _ (fun i => |r i c|) (fun i => by rw [hr, absf_coe]) fun i => abs_nonneg _

/-- Every copy of the column maxima is the one row of them. -/
theorem peaks0 (i : Fin 25) (c : Fin 16) : k0_pay3 x w1 w2 (ix3 i 0 c) = k0_pay2 x w1 w2 (ix2 0 c) := by
  pointwise [k0_pay3]

include hr in
/-- The first code: the entries over their column's scale. -/
theorem code0 (i : Fin 10000) (c : Fin 16) (p : ℝ) (hp : k0_pay2 x w1 w2 (ix2 0 c) = (p : EReal)) :
    k0_pay4 x w1 w2 (ix2 i c) = ((r i c * (192 / max p tiny) : ℝ) : EReal) := by
  pointwise [k0_pay4]
  rw [hr, hp, show Ideal.ofBits FTy.f32 1128267776#32 = _ from lit_192, show Ideal.ofBits FTy.f32 228737632#32 = _ from lit_tiny,
    ← EReal.coe_strictMono.monotone.map_max, Ideal.div_coe (lt_max_of_lt_right tiny_pos).ne', ← EReal.coe_mul, ← EReal.coe_mul, mul_one_div]

end First

/-! ## The second body -/

/-- The adjacency's code: no entry is large enough to be clipped. -/
theorem codeA (a : Vec Ideal S400x10000 .f32) (p : Fin 400) (j : Fin 10000) (v : ℝ) (hv : a (ix2 p j) = (v : EReal)) (hb : |v| ≤ 1 / 10000) :
    k1_pay3 a (ix2 p j) = ((v * 1920000 : ℝ) : EReal) := by
  pointwise [k1_pay3]
  rw [hv, show Ideal.ofBits FTy.f32 1138753536#32 = _ from lit_448, show Ideal.ofBits FTy.f32 3286237184#32 = _ from lit_neg448,
    show Ideal.ofBits FTy.f32 1240096768#32 = _ from lit_scale]
  refine clip_mul _ _ ?_
  rw [abs_mul, abs_of_pos (by norm_num : (0 : ℝ) < 1920000)]
  linarith

/-- The scale of the start, read back from the copies of its column maxima. -/
theorem scale1 (cr : Vec Ideal S25x1x16 .f32) (c : Fin 16) (p : ℝ) (hp : ∀ i : Fin 25, cr (ix3 i 0 c) = (p : EReal)) (h0 : 0 ≤ p) :
    k1_pay4 cr (ix2 0 c) = ((max p tiny : ℝ) : EReal) := by
  pointwise [k1_pay4]
  obtain ⟨m, hm, -, hle⟩ := fold_max (fun i : Fin 25 => cr (ix3 i 0 c)) (fun _ => p) hp fun _ => h0
  have hmp : m = p := by
    obtain ⟨i, -, hi⟩ := Finset.exists_mem_eq_sup Finset.univ Finset.univ_nonempty (fun i : Fin 25 => cr (ix3 i 0 c))
    have : (m : EReal) = (p : EReal) := hm.symm.trans (hi.trans (hp i))
    exact EReal.coe_injective this
  rw [show Ideal.ofBits FTy.f32 4286578688#32 = (⊥ : EReal) from lit_bot, hm, hmp, show Ideal.ofBits FTy.f32 228737632#32 = _ from lit_tiny,
    ← EReal.coe_strictMono.monotone.map_max]

/-- The second body's sweep of a row. -/
theorem sweep_val (a : Vec Ideal S400x10000 .f32) (cr : Vec Ideal S25x1x16 .f32) (qr : Vec Ideal S10000x16 .fp8e4m3) (rows : Vec Ideal S400x16 .f32)
    (p : Fin 400) (c : Fin 16) (b g : Fin 10000 → ℝ) (s ρ : ℝ) (hs : s ≠ 0) (ha : ∀ j, k1_pay3 a (ix2 p j) = ((b j * 1920000 : ℝ) : EReal))
    (hq : ∀ j, qr (ix2 j c) = ((g j * (192 / s) : ℝ) : EReal)) (hcr : k1_pay4 cr (ix2 0 c) = (s : EReal)) (hρ : rows (ix2 p c) = (ρ : EReal)) :
    k1_pay5 a cr qr rows (ix2 p c) = (((∑ j, b j * g j) + alpha * ρ : ℝ) : EReal) := by
  pointwise [k1_pay5]
  rw [hcr, hρ, lit_inv, show Ideal.ofBits FTy.f32 1036831949#32 = _ from lit_alpha]
  simp only [ha, hq]
  exact step_val b g s ρ hs

/-- Its code, at twice the start's scale. -/
theorem code1 (a : Vec Ideal S400x10000 .f32) (cr : Vec Ideal S25x1x16 .f32) (qr : Vec Ideal S10000x16 .fp8e4m3) (rows : Vec Ideal S400x16 .f32)
    (p : Fin 400) (c : Fin 16) (y s : ℝ) (hs : 0 < s) (hy : k1_pay5 a cr qr rows (ix2 p c) = (y : EReal)) (hcr : k1_pay4 cr (ix2 0 c) = (s : EReal))
    (hb : |y| ≤ 9 / 4 * s) :
    k1_pay1 (k1_pay6 a cr qr rows) (Scalar.ofBits .f32 0x43E00000#32) k1_pay7 (ix2 p c) = ((y * (192 / (2 * s)) : ℝ) : EReal) := by
  pointwise [k1_pay6, k1_pay1, k1_pay7]
  rw [hy, hcr, show Ideal.ofBits FTy.f32 1138753536#32 = _ from lit_448, show Ideal.ofBits FTy.f32 3286237184#32 = _ from lit_neg448,
    show Ideal.ofBits FTy.f32 1128267776#32 = _ from lit_192, show Ideal.ofBits FTy.f32 1073741824#32 = _ from lit_2, ← EReal.coe_mul]
  exact clip_val y (2 * s) (by linarith) (by linarith)

/-- The column maxima of a block of the first sweep. -/
theorem peak1 (z : FVec Ideal S400x16 .f32) (c : Fin 16) (y : Fin 400 → ℝ) (hy : ∀ p, z (ix2 p c) = (y p : EReal)) :
    ∃ m : ℝ, k1_pay2 z (ix3 0 0 c) = (m : EReal) ∧ 0 ≤ m := by
  have e : k1_pay2 z (ix3 0 0 c) = Finset.fold max (⊥ : EReal) (fun p => FloatOps.absf (F := Ideal) (φ := .f32) (z (ix2 p c))) Finset.univ := by
    pointwise [k1_pay2]
    rw [show Ideal.ofBits FTy.f32 4286578688#32 = (⊥ : EReal) from lit_bot]
  obtain ⟨m, hm, h0, -⟩ := fold_max (fun p : Fin 400 => FloatOps.absf (F := Ideal) (φ := .f32) (z (ix2 p c))) (fun p => |y p|)
    (fun p => by rw [hy, absf_coe]) fun p => abs_nonneg _
  exact ⟨m, e.trans hm, h0⟩

/-! ## The third body -/

/-- The third body reads the start's scale as the second does. -/
theorem scale2 (cr : Vec Ideal S25x1x16 .f32) : k2_pay5 cr = k1_pay4 cr := rfl

/-- The scale of the later iterates: real, and not under the start's. -/
theorem scale3 (c1 cr : Vec Ideal S25x1x16 .f32) (c : Fin 16) (s : ℝ) (hs : 0 < s) (hcr : k2_pay5 cr (ix2 0 c) = (s : EReal))
    (m : Fin 25 → ℝ) (hm : ∀ i, c1 (ix3 i 0 c) = (m i : EReal)) (h0 : ∀ i, 0 ≤ m i) :
    ∃ t : ℝ, k2_pay6 c1 cr (ix2 0 c) = (t : EReal) ∧ s ≤ t := by
  obtain ⟨p, hp, hp0, -⟩ := fold_max (fun i : Fin 25 => c1 (ix3 i 0 c)) m hm h0
  refine ⟨max (p + s) tiny, ?_, le_max_of_le_left (by linarith)⟩
  pointwise [k2_pay6]
  rw [hcr, show Ideal.ofBits FTy.f32 4286578688#32 = (⊥ : EReal) from lit_bot, hp, show Ideal.ofBits FTy.f32 228737632#32 = _ from lit_tiny,
    ← EReal.coe_add, ← EReal.coe_strictMono.monotone.map_max]

/-- A sweep of a row, from a code at scale `s`. -/
theorem sweep2 (sc : FVec Ideal S1x16 .f32) (q : Vec Ideal S400x10000 .fp8e4m3) (z : Vec Ideal S10000x16 .fp8e4m3) (rows : Vec Ideal S400x16 .f32)
    (p : Fin 400) (c : Fin 16) (b g : Fin 10000 → ℝ) (s ρ : ℝ) (hs : s ≠ 0) (hq : ∀ j, q (ix2 p j) = ((b j * 1920000 : ℝ) : EReal))
    (hz : ∀ j, z (ix2 j c) = ((g j * (192 / s) : ℝ) : EReal)) (hsc : sc (ix2 0 c) = (s : EReal)) (hρ : rows (ix2 p c) = (ρ : EReal)) :
    k2_pay1 sc q z rows (ix2 p c) = (((∑ j, b j * g j) + alpha * ρ : ℝ) : EReal) := by
  pointwise [k2_pay1]
  rw [hsc, hρ, lit_inv, show Ideal.ofBits FTy.f32 1036831949#32 = _ from lit_alpha]
  simp only [hq, hz]
  exact step_val b g s ρ hs

/-- The factor that codes an iterate at the later scale. -/
theorem factor2 (c1 cr : Vec Ideal S25x1x16 .f32) (c : Fin 16) :
    k2_pay7 c1 cr (ix2 0 c) = Ideal.div ((192 : ℝ) : EReal) (k2_pay6 c1 cr (ix2 0 c)) := by
  pointwise [k2_pay7]
  rw [show Ideal.ofBits FTy.f32 1128267776#32 = _ from lit_192]

/-- The code of a swept row. -/
theorem code2 (f sc : FVec Ideal S1x16 .f32) (q : Vec Ideal S400x10000 .fp8e4m3) (z : Vec Ideal S10000x16 .fp8e4m3) (rows : Vec Ideal S400x16 .f32)
    (p : Fin 400) (c : Fin 16) (y t : ℝ) (ht : 0 < t) (hy : k2_pay1 sc q z rows (ix2 p c) = (y : EReal))
    (hf : f (ix2 0 c) = Ideal.div ((192 : ℝ) : EReal) (t : EReal)) (hb : |y| ≤ 9 / 4 * t) :
    k2_pay2 f sc q z rows (ix2 p c) = ((y * (192 / t) : ℝ) : EReal) := by
  pointwise [k2_pay2]
  rw [hy, hf, show Ideal.ofBits FTy.f32 1138753536#32 = _ from lit_448, show Ideal.ofBits FTy.f32 3286237184#32 = _ from lit_neg448]
  exact clip_val y t ht (by linarith)

/-- The odd sweeps' code is the even sweeps'. -/
theorem code_odd (f sc : FVec Ideal S1x16 .f32) (q : Vec Ideal S400x10000 .fp8e4m3) (z : Vec Ideal S10000x16 .fp8e4m3) (rows : Vec Ideal S400x16 .f32) :
    k2_pay4 f sc q z rows = k2_pay2 f sc q z rows := rfl

/-- So is the first sweep's. -/
theorem code_first (i : grid2.Coords) (c1 cr : Vec Ideal S25x1x16 .f32) (q : Vec Ideal S400x10000 .fp8e4m3) (z : Vec Ideal S10000x16 .fp8e4m3)
    (rows : Vec Ideal S400x16 .f32) (p : Fin 400) (c : Fin 16) :
    k2_pay9 i c1 cr q z rows (ix2 p c) = k2_pay2 (k2_pay7 c1 cr) (k2_pay8 i c1 cr) q z rows (ix2 p c) := by
  pointwise [k2_pay9, k2_pay2, k2_pay1]

/-- The scale of what a sweep reads: twice the start's in the first sweep, the later scale in the others. -/
theorem source (i : grid2.Coords) (c1 cr : Vec Ideal S25x1x16 .f32) (c : Fin 16) :
    k2_pay8 i c1 cr (ix2 0 c) = if (i 0).val = 0 then ((2 : ℝ) : EReal) * k2_pay5 cr (ix2 0 c) else k2_pay6 c1 cr (ix2 0 c) := by
  have hi : (i 0).val < 9 := (i 0).isLt
  pointwise [k2_pay8]
  rw [show Ideal.ofBits FTy.f32 1073741824#32 = _ from lit_2]
  by_cases h : (i 0).val = 0
  · rw [if_pos h, h]; rfl
  · rw [if_neg h]
    have : Scalar.cmpi CmpIPredicate.eq (BitVec.ofNat 32 (i 0).val) 0#32 = 0#1 := by
      generalize (i 0).val = n at hi h
      interval_cases n <;> first | rfl | exact absurd rfl h
    rw [this]; rfl

/-- The logarithm of the softmax of a row. -/
def logSoftmax (y : Fin 16 → EReal) (c : Fin 16) : EReal :=
  y c - Finset.fold max (⊥ : EReal) y Finset.univ - Ideal.log (∑ x, Ideal.exp (y x - Finset.fold max (⊥ : EReal) y Finset.univ))

/-- The start of the relaxation: the two products with the rectifier between them. -/
def dense (X : Fin 10000 → Fin 256 → ℝ) (W : Fin 256 → Fin 64 → ℝ) (U : Fin 64 → Fin 16 → ℝ) (i : Fin 10000) (k : Fin 16) : ℝ :=
  ∑ h, max (∑ j, X i j * W j h) 0 * U h k

/-- The result: the logarithm of the softmax of each row of the tenth iterate. -/
def result (A : Fin 10000 → Fin 10000 → ℝ) (r : Fin 10000 → Fin 16 → ℝ) (i : Fin 10000) (k : Fin 16) : EReal :=
  logSoftmax (fun x => (relax A r 10 i x : EReal)) k

/-- The last sweep's rows. -/
theorem last_apply (sc : FVec Ideal S1x16 .f32) (q : Vec Ideal S400x10000 .fp8e4m3) (z : Vec Ideal S10000x16 .fp8e4m3) (rows : Vec Ideal S400x16 .f32)
    (p : Fin 400) (c : Fin 16) : k2_pay3 sc q z rows (ix2 p c) = logSoftmax (fun x => k2_pay1 sc q z rows (ix2 p x)) c := by
  pointwise [k2_pay3, logSoftmax]
  rw [show Ideal.ofBits FTy.f32 4286578688#32 = (⊥ : EReal) from lit_bot]

end Cert.Value

end
-- ==== Proof.Value.Sweeps.lean ====
/- The third region's sweeps over the extended reals: along the points the two scratch buffers hold, row block by row block, the codes of
   the iterates, and the last sweep's block is the logarithm of the softmax of the tenth. -/
module

public import proofs.«01_k».proof.Proof.KernelIdeal.Data
public import proofs.«01_k».proof.Proof.Value.Pay

@[expose] public section

set_option maxRecDepth 16384

noncomputable section

namespace Cert.Value

open Cert.KernelIdeal Cert.KernelIdeal.Gen Cert.KernelIdeal.Bodies
open Idealize.ShloMosaic Idealize.ShloMosaic.TcCoe Idealize.ShloMosaic.Pointwise

/-! ## Blocks of 400 rows -/

/-- Row `p` of block `b`. -/
def rowOf (b : ℕ) (hb : b < 25) (p : Fin 400) : Fin 10000 := ⟨400 * b + p.val, by have := p.isLt; omega⟩

/-- A window of block `b`'s rows reads them. -/
theorem window_rows {α : Type} (x : S10000x16.Idx → α) (off : Fin 2 → ℕ) (inb : ∀ a, off a + S400x16.size a ≤ S10000x16.size a)
    (b : ℕ) (hb : b < 25) (ho : off = ![400 * b, 0]) (p : Fin 400) (c : Fin 16) :
    VecWindow.window x off S400x16.size inb (ix2 p c) = x (ix2 (rowOf b hb p) c) := by
  subst ho
  refine congrArg x (funext fun a => Fin.ext ?_)
  fin_cases a
  · show 400 * b + 1 * p.val = 400 * b + p.val
    omega
  · show 0 + 1 * c.val = c.val
    omega

/-- A put of block `b`'s rows, at one of them. -/
theorem put_rows {α : Type} (x : S10000x16.Idx → α) (off : Fin 2 → ℕ) (w : S400x16.Idx → α) (b : ℕ) (hb : b < 25) (ho : off = ![400 * b, 0])
    (p : Fin 400) (c : Fin 16) : VecWindow.put (s := S10000x16) x off S400x16.size w (ix2 (rowOf b hb p) c) = w (ix2 p c) := by
  subst ho
  have hp := p.isLt
  have hc := c.isLt
  have h : ∀ a, (![400 * b, 0] : Fin 2 → ℕ) a ≤ ((ix2 (rowOf b hb p) c : S10000x16.Idx) a).val
      ∧ ((ix2 (rowOf b hb p) c : S10000x16.Idx) a).val < (![400 * b, 0] : Fin 2 → ℕ) a + S400x16.size a := by
    intro a
    fin_cases a
    · show 400 * b ≤ 400 * b + p.val ∧ 400 * b + p.val < 400 * b + 400
      omega
    · show 0 ≤ c.val ∧ c.val < 0 + 16
      omega
  refine (dif_pos h).trans (congrArg w (funext fun a => Fin.ext ?_))
  fin_cases a
  · show 400 * b + p.val - 400 * b = p.val
    omega
  · show c.val - 0 = c.val
    omega

/-- The same at a row of another block. -/
theorem put_other {α : Type} (x : S10000x16.Idx → α) (off : Fin 2 → ℕ) (w : S400x16.Idx → α) (b : ℕ) (ho : off = ![400 * b, 0])
    (i : Fin 10000) (c : Fin 16) (hi : i.val < 400 * b) : VecWindow.put (s := S10000x16) x off S400x16.size w (ix2 i c) = x (ix2 i c) := by
  subst ho
  refine dif_neg fun h => ?_
  have := (h 0).1
  have e : 400 * b ≤ i.val := this
  omega

/-! ## The third region's points -/

theorem inner_lt (t : Fin cfg2.N) : t.val % 25 < 25 := Nat.mod_lt _ (by norm_num)

set_option maxHeartbeats 1000000 in
/-- The outer coordinate, the rows a point works on, and which sweeps take which branch. -/
theorem point_facts : ∀ t : Fin cfg2.N, (grid2.coords t 0).val = t.val / 25
    ∧ k2_off1 (grid2.coords t) = ![400 * (t.val % 25), 0] ∧ k2_off2 (grid2.coords t) = ![400 * (t.val % 25), 0]
    ∧ k2_off3 (grid2.coords t) = ![400 * (t.val % 25), 0] := by decide +kernel

theorem branch_facts : ∀ t : Fin cfg2.N, (k2_cond1 (grid2.coords t) = 1#1 ↔ t.val / 25 = 0)
    ∧ (k2_cond2 (grid2.coords t) = 1#1 ↔ 0 < t.val / 25 ∧ t.val / 25 % 2 = 0) ∧ (k2_cond3 (grid2.coords t) = 1#1 ↔ t.val / 25 = 8)
    ∧ (k2_cond4 (grid2.coords t) = 1#1 ↔ t.val / 25 % 2 = 1) := by decide +kernel

/-! ## What the region is entered with -/

variable (A : Fin 10000 → Fin 10000 → ℝ) (r : Fin 10000 → Fin 16 → ℝ) (S s : Fin 16 → ℝ)

/-- The bounds that keep every clip idle. -/
structure Bounds : Prop where
  adj : ∀ i j, |A i j| ≤ 1 / 10000
  start : ∀ i c, |r i c| ≤ S c
  pos : ∀ c, 0 < S c
  later : ∀ c, S c ≤ s c

/-- The operands at a point: the coded adjacency's block, the coded first sweep, the start, and the two scales. -/
structure Entry (t : Fin cfg2.N) (q : Vec Ideal S400x10000 .fp8e4m3) (z1 : Vec Ideal S10000x16 .fp8e4m3) (res : Vec Ideal S10000x16 .f32)
    (c1 cr : Vec Ideal S25x1x16 .f32) : Prop where
  adj : ∀ p j, q (ix2 p j) = ((A (rowOf (t.val % 25) (inner_lt t) p) j * 1920000 : ℝ) : EReal)
  first : ∀ i c, z1 (ix2 i c) = ((relax A r 1 i c * (192 / (2 * S c)) : ℝ) : EReal)
  start : ∀ i c, res (ix2 i c) = (r i c : EReal)
  scale : ∀ c, k2_pay5 cr (ix2 0 c) = (S c : EReal)
  later : ∀ c, k2_pay6 c1 cr (ix2 0 c) = (s c : EReal)

/-- The scale of what sweep `j` reads. -/
def sourceScale (j : ℕ) (c : Fin 16) : ℝ := if j = 0 then 2 * S c else s c

/-- The first `n` blocks of rows hold the codes of iterate `k`. -/
def CodedTo (n k : ℕ) (z : Vec Ideal S10000x16 .fp8e4m3) : Prop :=
  ∀ (i : Fin 10000) (c : Fin 16), i.val < 400 * n → z (ix2 i c) = ((relax A r k i c * (192 / s c) : ℝ) : EReal)

variable {A r S s} (hb : Bounds A r S s)
variable {t : Fin cfg2.N} {q : Vec Ideal S400x10000 .fp8e4m3} {z1 : Vec Ideal S10000x16 .fp8e4m3} {res : Vec Ideal S10000x16 .f32}
  {c1 cr : Vec Ideal S25x1x16 .f32} (he : Entry A r S s t q z1 res c1 cr)

include hb in
theorem Bounds.later_pos (c : Fin 16) : 0 < s c := (hb.pos c).trans_le (hb.later c)

include hb he in
/-- A sweep's rows are the next iterate's. -/
theorem swept (z : Vec Ideal S10000x16 .fp8e4m3)
    (hz : ∀ i c, z (ix2 i c) = ((relax A r (t.val / 25 + 1) i c * (192 / sourceScale S s (t.val / 25) c) : ℝ) : EReal))
    (off : Fin 2 → ℕ) (inb : ∀ a, off a + S400x16.size a ≤ S10000x16.size a) (ho : off = ![400 * (t.val % 25), 0]) (p : Fin 400) (c : Fin 16) :
    k2_pay1 (k2_pay8 (grid2.coords t) c1 cr) q z (VecWindow.window res off S400x16.size inb) (ix2 p c)
      = (relax A r (t.val / 25 + 2) (rowOf (t.val % 25) (inner_lt t) p) c : EReal) := by
  have hS := hb.pos c
  have hs := hb.later_pos c
  refine sweep2 _ q z _ p c (A (rowOf (t.val % 25) (inner_lt t) p)) (fun j => relax A r (t.val / 25 + 1) j c) (sourceScale S s (t.val / 25) c)
    (r (rowOf (t.val % 25) (inner_lt t) p) c) ?_ (he.adj p) (fun j => hz j c) ?_ ?_
  · unfold sourceScale; split
    · exact (by linarith : (0 : ℝ) < 2 * S c).ne'
    · exact hs.ne'
  · rw [source, (point_facts t).1, he.scale, he.later]
    unfold sourceScale
    split
    · rw [← EReal.coe_mul]
    · rfl
  · rw [window_rows res off inb _ (inner_lt t) ho, he.start]

include hb he in
/-- Their codes, put over a block of rows, extend what is coded by that block. -/
theorem coded_put (z x : Vec Ideal S10000x16 .fp8e4m3)
    (hz : ∀ i c, z (ix2 i c) = ((relax A r (t.val / 25 + 1) i c * (192 / sourceScale S s (t.val / 25) c) : ℝ) : EReal))
    (off : Fin 2 → ℕ) (inb : ∀ a, off a + S400x16.size a ≤ S10000x16.size a) (ho : off = ![400 * (t.val % 25), 0]) (hj : t.val / 25 ≤ 8)
    (hx : CodedTo A r s (t.val % 25) (t.val / 25 + 2) x) (w : Vec Ideal S400x16 .fp8e4m3)
    (hw : ∀ p c, w (ix2 p c) = k2_pay2 (k2_pay7 c1 cr) (k2_pay8 (grid2.coords t) c1 cr) q z (VecWindow.window res off S400x16.size inb) (ix2 p c)) :
    CodedTo A r s (t.val % 25 + 1) (t.val / 25 + 2) (VecWindow.put (s := S10000x16) x off S400x16.size w) := by
  intro i c hi
  by_cases hlt : i.val < 400 * (t.val % 25)
  · rw [put_other x off w _ ho i c hlt]
    exact hx i c hlt
  · obtain ⟨p, rfl⟩ : ∃ p, i = rowOf (t.val % 25) (inner_lt t) p :=
      ⟨⟨i.val - 400 * (t.val % 25), by omega⟩, Fin.ext (by show i.val = 400 * (t.val % 25) + (i.val - 400 * (t.val % 25)); omega)⟩
    rw [put_rows x off w _ (inner_lt t) ho p c, hw]
    refine code2 _ _ q z _ p c _ (s c) (hb.later_pos c) (swept hb he z hz off inb ho p c) ?_ ?_
    · rw [factor2, he.later]
    · refine (relax_le A r S hb.adj hb.start _ (by omega) _ c).trans ?_
      have := hb.later c
      linarith

/-- A scratch buffer coded throughout, as a later sweep reads it. -/
theorem coded_source {k : ℕ} {z : Vec Ideal S10000x16 .fp8e4m3} (h : CodedTo A r s 25 k z) {j : ℕ} (hj : j ≠ 0) (i : Fin 10000) (c : Fin 16) :
    z (ix2 i c) = ((relax A r k i c * (192 / sourceScale S s j c) : ℝ) : EReal) := by
  rw [h i c (by have := i.isLt; omega), sourceScale, if_neg hj]

include he in
/-- The coded first sweep, as the first sweep of this region reads it. -/
theorem first_source {j : ℕ} (hj : j = 0) (i : Fin 10000) (c : Fin 16) :
    z1 (ix2 i c) = ((relax A r (j + 1) i c * (192 / sourceScale S s j c) : ℝ) : EReal) := by
  subst hj
  rw [he.first, sourceScale, if_pos rfl]

/-! ## The invariant -/

variable (A r s) in
/-- In sweep `j` with `i` blocks of rows done: the buffer being written holds iterate `j + 2` in those blocks, and the other holds iterate
    `j + 1` throughout, the first sweep reading neither. -/
def Inv (j i : ℕ) (z : Vec Ideal S10000x16 .fp8e4m3 × Vec Ideal S10000x16 .fp8e4m3) : Prop :=
  (j % 2 = 0 → CodedTo A r s i (j + 2) z.2 ∧ (0 < j → CodedTo A r s 25 (j + 1) z.1))
    ∧ (j % 2 = 1 → CodedTo A r s i (j + 2) z.1 ∧ CodedTo A r s 25 (j + 1) z.2)

theorem coded_none (k : ℕ) (z : Vec Ideal S10000x16 .fp8e4m3) : CodedTo A r s 0 k z := fun i _ h => absurd h (by omega)

/-- A finished sweep starts the next. -/
theorem Inv.next {j : ℕ} {z : Vec Ideal S10000x16 .fp8e4m3 × Vec Ideal S10000x16 .fp8e4m3} (h : Inv A r s j 25 z) : Inv A r s (j + 1) 0 z := by
  refine ⟨fun hj => ⟨coded_none _ _, fun _ => ?_⟩, fun hj => ⟨coded_none _ _, ?_⟩⟩
  · exact (h.2 (by omega)).1
  · exact (h.1 (by omega)).1

include hb he in
/-- A point does one more block of rows. -/
theorem Inv.point {z : Vec Ideal S10000x16 .fp8e4m3 × Vec Ideal S10000x16 .fp8e4m3} (h : Inv A r s (t.val / 25) (t.val % 25) z) :
    Inv A r s (t.val / 25) (t.val % 25 + 1)
      (nextA (grid2.coords t) q res c1 cr z.1 z.2, nextB (grid2.coords t) q z1 res c1 cr z.1 z.2) := by
  obtain ⟨b1, b2, -, b4⟩ := branch_facts t
  obtain ⟨-, o1, o2, o3⟩ := point_facts t
  have hN : t.val < 225 := t.isLt
  have hj : t.val / 25 ≤ 8 := by omega
  refine ⟨fun he0 => ?_, fun ho1 => ?_⟩
  · have n4 : ¬k2_cond4 (grid2.coords t) = 1#1 := fun e => by have := b4.1 e; omega
    have eA : nextA (grid2.coords t) q res c1 cr z.1 z.2 = z.1 := by unfold nextA; rw [dif_neg n4]
    refine ⟨?_, fun hpos => by rw [eA]; exact (h.1 he0).2 hpos⟩
    by_cases h0 : t.val / 25 = 0
    · have y1 := b1.2 h0
      show CodedTo A r s _ _ (nextB _ _ _ _ _ _ _ _)
      unfold nextB; rw [dif_pos y1]
      exact coded_put hb he z1 z.2 (first_source he h0) _ (k2_off1_inb _ y1) o1 hj (h.1 he0).1 _ fun p c => code_first _ _ _ _ _ _ p c
    · have n1 : ¬k2_cond1 (grid2.coords t) = 1#1 := fun e => h0 (b1.1 e)
      have y2 := b2.2 ⟨by omega, he0⟩
      show CodedTo A r s _ _ (nextB _ _ _ _ _ _ _ _)
      unfold nextB; rw [dif_neg n1, dif_pos y2]
      exact coded_put hb he z.1 z.2 (coded_source ((h.1 he0).2 (by omega)) h0) _ (k2_off2_inb _ y2) o2 hj (h.1 he0).1 _ fun p c => rfl
  · have n1 : ¬k2_cond1 (grid2.coords t) = 1#1 := fun e => by have := b1.1 e; omega
    have n2 : ¬k2_cond2 (grid2.coords t) = 1#1 := fun e => by have := b2.1 e; omega
    have eB : nextB (grid2.coords t) q z1 res c1 cr z.1 z.2 = z.2 := by unfold nextB; rw [dif_neg n1, dif_neg n2]
    refine ⟨?_, by rw [eB]; exact (h.2 ho1).2⟩
    have y4 := b4.2 ho1
    show CodedTo A r s _ _ (nextA _ _ _ _ _ _ _)
    unfold nextA; rw [dif_pos y4]
    exact coded_put hb he z.2 z.1 (coded_source (h.2 ho1).2 (by omega)) _ (k2_off3_inb _ y4) o3 hj (h.2 ho1).1 _ fun p c => by rw [code_odd]

include hb he in
/-- The last sweep's block of the result, whatever the block held before. -/
theorem last_block (h8 : t.val / 25 = 8) {z : Vec Ideal S10000x16 .fp8e4m3 × Vec Ideal S10000x16 .fp8e4m3} (h : Inv A r s (t.val / 25) (t.val % 25) z)
    (y : Vec Ideal S400x16 .f32) (p : Fin 400) (c : Fin 16) :
    lastOut (grid2.coords t) q res c1 cr z.1 y (ix2 p c)
      = logSoftmax (fun x => (relax A r 10 (rowOf (t.val % 25) (inner_lt t) p) x : EReal)) c := by
  obtain ⟨-, b2, b3, -⟩ := branch_facts t
  obtain ⟨-, -, o2, -⟩ := point_facts t
  have y2 := b2.2 ⟨by omega, by omega⟩
  unfold lastOut
  rw [dif_pos y2, if_pos (b3.2 h8), last_apply]
  congr 1
  funext x
  have := swept hb he z.1 (coded_source ((h.1 (by omega)).2 (by omega)) (by omega)) _ (k2_off2_inb _ y2) o2 p x
  rw [this, h8]

/-! ## Along the region -/

variable (V : (c : Dev nD) → (b : Ref sig .tc) → Buf (Elt Ideal) ((c : Thread nD τ).loc b)) (c : Dev nD)

variable (A r S s) in
/-- Every point of the third region finds its operands so. -/
def EntryAll : Prop := ∀ t : Fin cfg2.N, Entry A r S s t (blk2 V c 0 t) (blk2 V c 1 t) (blk2 V c 2 t) (blk2 V c 3 t) (blk2 V c 4 t)

include hb in
theorem inv_traj (hV : EntryAll A r S s V c) (z : Vec Ideal S10000x16 .fp8e4m3 × Vec Ideal S10000x16 .fp8e4m3) (n : ℕ) (hn : n ≤ cfg2.N) :
    Inv A r s (n / 25) (n % 25) (traj V c z n) := by
  induction n with
  | zero => exact ⟨fun _ => ⟨coded_none _ _, fun h => absurd h (by norm_num)⟩, fun h => absurd h (by norm_num)⟩
  | succ n ih =>
    have hlt : n < cfg2.N := hn
    have hp := Inv.point hb (hV ⟨n, hlt⟩) (ih hlt.le)
    rw [traj_succ V c z ⟨n, hlt⟩]
    by_cases hw : n % 25 = 24
    · rw [show (n + 1) / 25 = n / 25 + 1 by omega, show (n + 1) % 25 = 0 by omega]
      have e : (⟨n, hlt⟩ : Fin cfg2.N).val % 25 + 1 = 25 := by show n % 25 + 1 = 25; omega
      rw [e] at hp
      exact hp.next
    · rw [show (n + 1) / 25 = n / 25 by omega, show (n + 1) % 25 = n % 25 + 1 by omega]
      exact hp

include hb in
/-- What a point of the last sweep leaves in the result's block. -/
theorem left_last (hV : EntryAll A r S s V c) (t : Fin cfg2.N) (h8 : t.val / 25 = 8) (X : Vec Ideal S400x16 .f32) (hX : left2 V c t X)
    (p : Fin 400) (k : Fin 16) :
    X (ix2 p k) = logSoftmax (fun x => (relax A r 10 (rowOf (t.val % 25) (inner_lt t) p) x : EReal)) k := by
  obtain ⟨z, y, rfl⟩ := hX
  exact last_block hb (hV t) h8 (inv_traj hb V c hV z t.val t.isLt.le) y p k

end Cert.Value

end
-- ==== Proof.Value.Regions.lean ====
/- What the first two regions leave and what the last two read, array by array, at real operands. -/
module

public import proofs.«01_k».proof.Proof.KernelIdeal.Run
public import proofs.«01_k».proof.Proof.Value.Sweeps
public import Idealize.ShloMosaic.Lib.Pipeline.ValueKit
public import Idealize.ShloMosaic.Lib.Pipeline.ArrRel

@[expose] public section

set_option maxRecDepth 16384

noncomputable section

namespace Cert.Value

open Cert.KernelIdeal Cert.KernelIdeal.Gen Cert.KernelIdeal.Bodies
open Idealize.ShloMosaic Idealize.ShloMosaic.TcCoe Idealize.ShloMosaic.Pointwise

variable (V : (c : Dev nD) → (b : Ref sig .tc) → Buf (Elt Ideal) ((c : Thread nD τ).loc b)) (c : Dev nD)

/-! ## Where the windows lie -/

theorem index0_whole : ∀ t : Fin cfg0.N, win0_0.index t = ![0, 0] ∧ win0_1.index t = ![0, 0] ∧ win0_2.index t = ![0, 0]
    ∧ win0_3.index t = ![0, 0] ∧ win0_4.index t = ![0, 0, 0] ∧ win0_5.index t = ![0, 0] :=
  (by decide +kernel : ∀ t : Fin grid0.N, _)

theorem index1_whole : ∀ t : Fin cfg1.N, win1_1.index t = ![0, 0] ∧ win1_2.index t = ![0, 0] ∧ win1_3.index t = ![0, 0, 0] :=
  (by decide +kernel : ∀ t : Fin grid1.N, _)

theorem index1_rows : ∀ t : Fin cfg1.N, win1_0.index t = ![t.val, 0] ∧ win1_4.index t = ![t.val, 0] ∧ win1_5.index t = ![t.val, 0, 0]
    ∧ win1_6.index t = ![t.val, 0] :=
  (by decide +kernel : ∀ t : Fin grid1.N, _)

theorem index2_whole : ∀ t : Fin cfg2.N, win2_1.index t = ![0, 0] ∧ win2_2.index t = ![0, 0] ∧ win2_3.index t = ![0, 0, 0]
    ∧ win2_4.index t = ![0, 0, 0] :=
  (by decide +kernel : ∀ t : Fin grid2.N, _)

theorem index2_rows : ∀ t : Fin cfg2.N, win2_0.index t = ![t.val % 25, 0] ∧ win2_5.index t = ![t.val % 25, 0] :=
  (by decide +kernel : ∀ t : Fin grid2.N, _)

theorem rowOf_val (b : ℕ) (hb : b < 25) (p : Fin 400) : (rowOf b hb p).val = 400 * b + p.val := rfl

/-! ## The operands' blocks -/

theorem blk0_whole (t : Fin cfg0.N) : (blk0 V c 0 t : Vec Ideal S10000x256 .f32) = V c main_arg0 ∧ (blk0 V c 1 t : Vec Ideal S256x64 .f32) = V c main_arg2
    ∧ (blk0 V c 2 t : Vec Ideal S64x16 .f32) = V c main_arg3 := by
  obtain ⟨e0, e1, e2, -⟩ := index0_whole t
  refine ⟨funext fun y => ?_, funext fun y => ?_, funext fun y => ?_⟩ <;> unfold blk0 <;> blk_simp
  · exact congrArg (V c main_arg0) (by blk_ext [e0])
  · exact congrArg (V c main_arg2) (by blk_ext [e1])
  · exact congrArg (V c main_arg3) (by blk_ext [e2])

theorem blk1_whole (t : Fin cfg1.N) : (blk1 V c 1 t : Vec Ideal S10000x16 .fp8e4m3) = V c main_call0_v0_2
    ∧ (blk1 V c 2 t : Vec Ideal S10000x16 .f32) = V c main_call0_v0_0 ∧ (blk1 V c 3 t : Vec Ideal S25x1x16 .f32) = V c main_call0_v0_1 := by
  obtain ⟨e1, e2, e3⟩ := index1_whole t
  refine ⟨funext fun y => ?_, funext fun y => ?_, funext fun y => ?_⟩ <;> unfold blk1 <;> blk_simp
  · exact congrArg (V c main_call0_v0_2) (by blk_ext [e1])
  · exact congrArg (V c main_call0_v0_0) (by blk_ext [e2])
  · exact congrArg (V c main_call0_v0_1) (by blk_ext [e3])

theorem blk1_rows (t : Fin cfg1.N) (p : Fin 400) (j : Fin 10000) :
    (blk1 V c 0 t : Vec Ideal S400x10000 .f32) (ix2 p j) = V c main_arg1 (ix2 (rowOf t.val t.isLt p) j) := by
  obtain ⟨e0, -⟩ := index1_rows t
  unfold blk1
  blk_simp
  refine congrArg (V c main_arg1) ?_
  have := rowOf_val t.val t.isLt p
  blk_ext [e0]

theorem blk2_whole (t : Fin cfg2.N) : (blk2 V c 1 t : Vec Ideal S10000x16 .fp8e4m3) = V c main_call0_v1_0
    ∧ (blk2 V c 2 t : Vec Ideal S10000x16 .f32) = V c main_call0_v0_0 ∧ (blk2 V c 3 t : Vec Ideal S25x1x16 .f32) = V c main_call0_v1_1
    ∧ (blk2 V c 4 t : Vec Ideal S25x1x16 .f32) = V c main_call0_v0_1 := by
  obtain ⟨e1, e2, e3, e4⟩ := index2_whole t
  refine ⟨funext fun y => ?_, funext fun y => ?_, funext fun y => ?_, funext fun y => ?_⟩ <;> unfold blk2 <;> blk_simp
  · exact congrArg (V c main_call0_v1_0) (by blk_ext [e1])
  · exact congrArg (V c main_call0_v0_0) (by blk_ext [e2])
  · exact congrArg (V c main_call0_v1_1) (by blk_ext [e3])
  · exact congrArg (V c main_call0_v0_1) (by blk_ext [e4])

theorem blk2_rows (t : Fin cfg2.N) (p : Fin 400) (j : Fin 10000) :
    (blk2 V c 0 t : Vec Ideal S400x10000 .fp8e4m3) (ix2 p j) = V c main_call0_v1_2 (ix2 (rowOf (t.val % 25) (inner_lt t) p) j) := by
  obtain ⟨e0, -⟩ := index2_rows t
  unfold blk2
  blk_simp
  refine congrArg (V c main_call0_v1_2) ?_
  have := rowOf_val (t.val % 25) (inner_lt t) p
  blk_ext [e0]

/-! ## The first region -/

/-- The start of the relaxation, as the first region leaves it. -/
theorem left0_start : (dat0 V c).arrAt 3 cfg0.N = k0_pay1 (V c main_arg0) (V c main_arg2) (V c main_arg3) := by
  refine (dat0 V c).arrAt_eq_of_covers 3 _ (by decide +kernel) fun t hf y => ?_
  obtain ⟨b0, b1, b2⟩ := blk0_whole V c t
  obtain ⟨-, -, -, e, -⟩ := index0_whole t
  blk_simp
  rw [(after0 V c t).1, b0, b1, b2]
  exact congrArg (k0_pay1 (V c main_arg0) (V c main_arg2) (V c main_arg3)) (by blk_ext [e])

/-- The copies of its column maxima. -/
theorem left0_peaks : (dat0 V c).arrAt 4 cfg0.N = k0_pay3 (V c main_arg0) (V c main_arg2) (V c main_arg3) := by
  refine (dat0 V c).arrAt_eq_of_covers 4 _ (by decide +kernel) fun t hf y => ?_
  obtain ⟨b0, b1, b2⟩ := blk0_whole V c t
  obtain ⟨-, -, -, -, e, -⟩ := index0_whole t
  blk_simp
  rw [(after0 V c t).2.1, b0, b1, b2]
  exact congrArg (k0_pay3 (V c main_arg0) (V c main_arg2) (V c main_arg3)) (by blk_ext [e])

/-- Its code. -/
theorem left0_code : (dat0 V c).arrAt 5 cfg0.N = k0_pay4 (V c main_arg0) (V c main_arg2) (V c main_arg3) := by
  refine (dat0 V c).arrAt_eq_of_covers 5 _ (by decide +kernel) fun t hf y => ?_
  obtain ⟨b0, b1, b2⟩ := blk0_whole V c t
  obtain ⟨-, -, -, -, -, e⟩ := index0_whole t
  blk_simp
  rw [(after0 V c t).2.2, b0, b1, b2]
  exact congrArg (k0_pay4 (V c main_arg0) (V c main_arg2) (V c main_arg3)) (by blk_ext [e])

/-! ## The second region -/

variable (A : Fin 10000 → Fin 10000 → ℝ) (r : Fin 10000 → Fin 16 → ℝ) (S : Fin 16 → ℝ)

/-- The second region's operands: the adjacency, the start, its column maxima and its code. -/
structure Entry1 : Prop where
  adj : ∀ i j, V c main_arg1 (ix2 i j) = (A i j : EReal)
  start : ∀ i k, V c main_call0_v0_0 (ix2 i k) = (r i k : EReal)
  scale : ∀ k, k1_pay4 (V c main_call0_v0_1) (ix2 0 k) = (S k : EReal)
  code : ∀ i k, V c main_call0_v0_2 (ix2 i k) = ((r i k * (192 / S k) : ℝ) : EReal)
  small : ∀ i j, |A i j| ≤ 1 / 10000
  bound : ∀ i k, |r i k| ≤ S k
  pos : ∀ k, 0 < S k

theorem rows_fact : ∀ t : Fin cfg1.N, k1_off1 (grid1.coords t) = ![400 * t.val, 0] := by decide +kernel

theorem after1 (t : Fin cfg1.N) :
    (dat1 V c).after 4 t = sweep1 (grid1.coords t) (blk1 V c 0 t) (blk1 V c 1 t) (blk1 V c 2 t) (blk1 V c 3 t)
      ∧ (dat1 V c).after 5 t = Bodies.peak1 (grid1.coords t) (blk1 V c 0 t) (blk1 V c 1 t) (blk1 V c 2 t) (blk1 V c 3 t)
      ∧ (dat1 V c).after 6 t = k1_pay3 (blk1 V c 0 t) := by
  refine ⟨?_, ?_, ?_⟩ <;> dsimp only [dat1]

variable {V c A r S} (h : Entry1 V c A r S)
include h

/-- The code of a block of the adjacency. -/
theorem block_adj (t : Fin cfg1.N) (p : Fin 400) (j : Fin 10000) :
    k1_pay3 (blk1 V c 0 t) (ix2 p j) = ((A (rowOf t.val t.isLt p) j * 1920000 : ℝ) : EReal) :=
  codeA _ p j _ ((blk1_rows V c t p j).trans (h.adj _ j)) (h.small _ j)

/-- A swept block of the first iterate. -/
theorem block_sweep (t : Fin cfg1.N) (p : Fin 400) (k : Fin 16) :
    k1_pay5 (blk1 V c 0 t) (blk1 V c 3 t) (blk1 V c 1 t) (rows1 (grid1.coords t) (blk1 V c 2 t)) (ix2 p k)
      = (relax A r 1 (rowOf t.val t.isLt p) k : EReal) := by
  obtain ⟨e1, e2, e3⟩ := blk1_whole V c t
  refine sweep_val _ _ _ _ p k (A (rowOf t.val t.isLt p)) (fun j => r j k) (S k) (r (rowOf t.val t.isLt p) k) (h.pos k).ne'
    (block_adj h t p) ?_ ?_ ?_
  · intro j; rw [e1]; exact h.code j k
  · rw [e3]; exact h.scale k
  · exact (window_rows _ _ _ t.val t.isLt (rows_fact t) p k).trans ((congrFun e2 _).trans (h.start _ k))

/-- Its code. -/
theorem block_code (t : Fin cfg1.N) (p : Fin 400) (k : Fin 16) :
    sweep1 (grid1.coords t) (blk1 V c 0 t) (blk1 V c 1 t) (blk1 V c 2 t) (blk1 V c 3 t) (ix2 p k)
      = ((relax A r 1 (rowOf t.val t.isLt p) k * (192 / (2 * S k)) : ℝ) : EReal) := by
  obtain ⟨-, -, e3⟩ := blk1_whole V c t
  refine code1 _ _ _ _ p k _ (S k) (h.pos k) (block_sweep h t p k) ?_ (relax_le A r S h.small h.bound 1 (by norm_num) _ k)
  rw [e3]; exact h.scale k

/-- The adjacency's code, as the second region leaves it. -/
theorem left1_adj (i j : Fin 10000) : (dat1 V c).arrAt 6 cfg1.N (ix2 i j) = ((A i j * 1920000 : ℝ) : EReal) := by
  have e : (dat1 V c).arrAt 6 cfg1.N = fun y : S10000x10000.Idx => ((A (y 0) (y 1) * 1920000 : ℝ) : EReal) := by
    refine (dat1 V c).arrAt_eq_of_covers 6 _ (by decide +kernel) fun t hf y => ?_
    obtain ⟨p, j, rfl⟩ : ∃ (p : Fin 400) (j : Fin 10000), y = ix2 p j := ⟨y 0, y 1, eq_ix2 y⟩
    obtain ⟨-, -, -, e⟩ := index1_rows t
    blk_simp
    rw [(after1 V c t).2.2]
    refine (block_adj h t p j).trans ?_
    refine congrArg (fun y : S10000x10000.Idx => ((A (y 0) (y 1) * 1920000 : ℝ) : EReal)) (?_ : ix2 (rowOf t.val t.isLt p) j = _)
    have := rowOf_val t.val t.isLt p
    blk_ext [e]
  rw [e]; rfl

/-- The first iterate's code. -/
theorem left1_code (i : Fin 10000) (k : Fin 16) :
    (dat1 V c).arrAt 4 cfg1.N (ix2 i k) = ((relax A r 1 i k * (192 / (2 * S k)) : ℝ) : EReal) := by
  have e : (dat1 V c).arrAt 4 cfg1.N = fun y : S10000x16.Idx => ((relax A r 1 (y 0) (y 1) * (192 / (2 * S (y 1))) : ℝ) : EReal) := by
    refine (dat1 V c).arrAt_eq_of_covers 4 _ (by decide +kernel) fun t hf y => ?_
    obtain ⟨p, k, rfl⟩ : ∃ (p : Fin 400) (k : Fin 16), y = ix2 p k := ⟨y 0, y 1, eq_ix2 y⟩
    obtain ⟨-, e, -⟩ := index1_rows t
    blk_simp
    rw [(after1 V c t).1]
    refine (block_code h t p k).trans ?_
    refine congrArg (fun y : S10000x16.Idx => ((relax A r 1 (y 0) (y 1) * (192 / (2 * S (y 1))) : ℝ) : EReal))
      (?_ : ix2 (rowOf t.val t.isLt p) k = _)
    have := rowOf_val t.val t.isLt p
    blk_ext [e]
  rw [e]; rfl

/-- The first iterate's column maxima, block by block: real, and none negative. -/
theorem left1_peaks (i : Fin 25) (k : Fin 16) : ∃ m : ℝ, (dat1 V c).arrAt 5 cfg1.N (ix3 i 0 k) = (m : EReal) ∧ 0 ≤ m := by
  refine (dat1 V c).arrAt_forall_of_covers 5 (fun _ v => ∃ m : ℝ, v = (m : EReal) ∧ 0 ≤ m) (by decide +kernel) (fun t hf y => ?_) (ix3 i 0 k)
  obtain ⟨a, b, k, rfl⟩ : ∃ (a : Fin 1) (b : Fin 1) (k : Fin 16), y = ix3 a b k := ⟨y 0, y 1, y 2, eq_ix3 y⟩
  obtain rfl : a = 0 := Subsingleton.elim _ _
  obtain rfl : b = 0 := Subsingleton.elim _ _
  blk_simp
  rw [(after1 V c t).2.1]
  exact Value.peak1 _ k _ fun p => block_sweep h t p k

end Cert.Value

end
-- ==== Proof.Value.Result.lean ====
/- What the whole program leaves in its result, at real operands: the logarithm of the softmax of the tenth iterate. -/
module

public import proofs.«01_k».proof.Proof.Value.Regions

@[expose] public section

set_option maxRecDepth 16384

noncomputable section

namespace Cert.Value

open Cert.KernelIdeal Cert.KernelIdeal.Gen Cert.KernelIdeal.Bodies
open Idealize.ShloMosaic Idealize.ShloMosaic.TcCoe Idealize.ShloMosaic.Pointwise
open Idealize.ShloMosaic.Pipeline (Dat RDat)

variable (m : (ℓ : Loc nD τ sig) → Buf (Elt Ideal) ℓ) (c : Dev nD)

/-! ## The operands, as real numbers -/

/-- The launched operands are real, and the adjacency is small. -/
structure RealArgs (X : Fin 10000 → Fin 256 → ℝ) (A : Fin 10000 → Fin 10000 → ℝ) (W : Fin 256 → Fin 64 → ℝ) (U : Fin 64 → Fin 16 → ℝ) : Prop where
  x : ∀ i j, m ((c : Thread nD τ).loc main_arg0) (ix2 i j) = (X i j : EReal)
  adj : ∀ i j, m ((c : Thread nD τ).loc main_arg1) (ix2 i j) = (A i j : EReal)
  w : ∀ i j, m ((c : Thread nD τ).loc main_arg2) (ix2 i j) = (W i j : EReal)
  u : ∀ i j, m ((c : Thread nD τ).loc main_arg3) (ix2 i j) = (U i j : EReal)
  small : ∀ i j, |A i j| ≤ 1 / 10000

variable {m c} {X : Fin 10000 → Fin 256 → ℝ} {A : Fin 10000 → Fin 10000 → ℝ} {W : Fin 256 → Fin 64 → ℝ} {U : Fin 64 → Fin 16 → ℝ}

/-! ## From region to region -/

/-- The second region is entered with the start, its scale and its code. -/
theorem entry1 (h : RealArgs m c X A W U) : ∃ S, Entry1 (V1 m) c A (dense X W U) S := by
  have hr : ∀ i k, k0_pay1 (V0 m c main_arg0) (V0 m c main_arg2) (V0 m c main_arg3) (ix2 i k) = (dense X W U i k : EReal) :=
    fun i k => dense_real _ _ _ X W U h.x h.w h.u i k
  choose p hp hp0 hpr using peak0 (V0 m c main_arg0) (V0 m c main_arg2) (V0 m c main_arg3) (dense X W U) hr
  refine ⟨fun k => max (p k) tiny, ⟨?_, ?_, ?_, ?_, h.small, fun i k => (hpr k i).trans (le_max_left _ _), fun k => lt_max_of_lt_right tiny_pos⟩⟩
  · intro i j
    exact (congrFun (M1_of m c main_arg1 (by decide)) (ix2 i j)).trans (h.adj i j)
  · intro i k
    exact (congrFun ((M1_arr m c 3).trans (left0_start (V0 m) c)) (ix2 i k)).trans (hr i k)
  · intro k
    refine scale1 _ k (p k) (fun i => ?_) (hp0 k)
    exact (congrFun ((M1_arr m c 4).trans (left0_peaks (V0 m) c)) (ix3 i 0 k)).trans ((peaks0 _ _ _ i k).trans (hp k))
  · intro i k
    exact (congrFun ((M1_arr m c 5).trans (left0_code (V0 m) c)) (ix2 i k)).trans (code0 _ _ _ _ hr i k (p k) (hp k))

/-- The third region is entered with the coded adjacency, the coded first iterate, the start and the two scales. -/
theorem entry2 {r : Fin 10000 → Fin 16 → ℝ} {S : Fin 16 → ℝ} (h : Entry1 (V1 m) c A r S) :
    ∃ s, Bounds A r S s ∧ EntryAll A r S s (V2 m) c := by
  choose q hq hq0 using fun k i => left1_peaks h i k
  have hcr : V2 m c main_call0_v0_1 = V1 m c main_call0_v0_1 := M2_of m c main_call0_v0_1 (by decide)
  have hS : ∀ k, k2_pay5 (V2 m c main_call0_v0_1) (ix2 0 k) = (S k : EReal) := fun k => by rw [hcr, scale2]; exact h.scale k
  choose s hs hle using fun k => scale3 (V2 m c main_call0_v1_1) (V2 m c main_call0_v0_1) k (S k) (h.pos k) (hS k) (q k)
    (fun i => (congrFun (M2_arr m c 5) (ix3 i 0 k)).trans (hq k i)) (hq0 k)
  refine ⟨s, ⟨h.small, h.bound, h.pos, hle⟩, fun t => ?_⟩
  obtain ⟨e1, e2, e3, e4⟩ := blk2_whole (V2 m) c t
  refine ⟨fun p j => ?_, fun i k => ?_, fun i k => ?_, fun k => ?_, fun k => ?_⟩
  · exact (blk2_rows (V2 m) c t p j).trans ((congrFun (M2_arr m c 6) _).trans (left1_adj h _ j))
  · rw [e1]; exact (congrFun (M2_arr m c 4) _).trans (left1_code h i k)
  · rw [e2]; exact (congrFun (M2_of m c main_call0_v0_0 (by decide)) _).trans (h.start i k)
  · rw [e4]; exact hS k
  · rw [e3, e4]; exact hs k

/-! ## The result's array -/

/-- Every point writes the result's block back; after `n` blocks of the last sweep the first `n` blocks of rows are final. -/
theorem last_rows {r : Fin 10000 → Fin 16 → ℝ} {U' : Type} [Idealize.SL.RA.URA U'] (dat : Dat τ (Elt Ideal) Unit ℕ U' ℕ cfg2 c)
    (h : ∀ t : Fin cfg2.N, t.val / 25 = 8 → ∀ p k, (dat.after 5 t : Vec Ideal S400x16 .f32) (ix2 p k) = result A r (rowOf (t.val % 25) (inner_lt t) p) k)
    (n : ℕ) (hn : n ≤ 25) (i : Fin 10000) (k : Fin 16) (hi : i.val < 400 * n) : dat.arrAt 5 (200 + n) (ix2 i k) = result A r i k := by
  induction n with
  | zero => omega
  | succ n ih =>
    have hlt : 200 + n < cfg2.N := by show 200 + n < 225; omega
    have hmod : (200 + n) % 25 = n := by omega
    rw [show 200 + (n + 1) = 200 + n + 1 from rfl, dat.arrAt_succ_apply, dif_pos hlt, if_pos (flush2_5 _)]
    have e : win2_5.index ⟨200 + n, hlt⟩ = ![n, 0] := by
      rw [(index2_rows ⟨200 + n, hlt⟩).2]
      show ![(200 + n) % 25, 0] = _
      rw [hmod]
    by_cases hin : i.val < 400 * n
    · rw [View.write_of_not_mem]
      · exact ih (by omega) hin
      · rw [View.setOn_univ]
        mem_blk [e]
        have e0 : ((ix2 i k : S10000x16.Idx) 0).val = i.val := rfl
        omega
    · obtain ⟨p, rfl⟩ : ∃ p, i = rowOf ((200 + n) % 25) (inner_lt ⟨200 + n, hlt⟩) p :=
        ⟨⟨i.val - 400 * n, by omega⟩, Fin.ext (by show i.val = 400 * ((200 + n) % 25) + (i.val - 400 * n); omega)⟩
      have hy : (ix2 (rowOf ((200 + n) % 25) (inner_lt ⟨200 + n, hlt⟩) p) k : S10000x16.Idx)
          = ((cfg2.win 5).blk ⟨200 + n, hlt⟩).view.emb (ix2 p k : S400x16.Idx) := by
        have := rowOf_val ((200 + n) % 25) (inner_lt ⟨200 + n, hlt⟩) p
        blk_ext [e]
      rw [hy, View.write_emb_of_mem _ _ (Finset.mem_univ _)]
      exact h ⟨200 + n, hlt⟩ (by show (200 + n) / 25 = 8; omega) p k

/-- The program's result. -/
theorem left_result (h : RealArgs m c X A W U) (G : Vec Ideal S10000x16 .f32) (hG : Left m c 5 G) (i : Fin 10000) (k : Fin 16) :
    G (ix2 i k) = result A (dense X W U) i k := by
  obtain ⟨S, h1⟩ := entry1 h
  obtain ⟨s, hb, h2⟩ := entry2 h1
  obtain ⟨Y, hY, hA⟩ := RDat.ArrAt.exists_exact hG
  have e := hA (fun w t => if hw : w = 5 then hw ▸ Y t else Classical.arbitrary _) fun u _ _ => by rw [dif_pos rfl]
  rw [e]
  refine last_rows _ (fun t h8 p k => ?_) 25 le_rfl i k (by have := i.isLt; omega)
  exact left_last hb (V2 m) c h2 t h8 (Y t) ((dat2 (V2 m) c).toRRel_leaves rfl (hY t t.isLt (flush2_5 t))) p k

end Cert.Value

end
-- ==== Proof.Value.Reference.lean ====
/- What the reference leaves in its result, at real operands: the logarithm of the softmax of the tenth iterate. -/
module

public import proofs.«01_k».proof.Proof.Gen.ReferenceIdeal.Run
public import proofs.«01_k».proof.Proof.Value.Pay
public import Idealize.ShloMosaic.Lib.Tactic.CleanTypes

@[expose] public section

set_option maxRecDepth 16384

noncomputable section

namespace Cert.Value

open Cert.ReferenceIdeal Cert.ReferenceIdeal.Gen
open Idealize.ShloMosaic Idealize.ShloMosaic.TcCoe Idealize.ShloMosaic.Pointwise

/-- The reference's start. -/
def hostStart (x : FVec Ideal S10000x256 .f32) (w1 : FVec Ideal S256x64 .f32) (w2 : FVec Ideal S64x16 .f32) : FVec Ideal S10000x16 .f32 :=
  Host.dotGeneral dot_S10000x64_S64x16_S10000x16_1_0_0_1_n_n none
    (maximumf (Host.dotGeneral dot_S10000x256_S256x64_S10000x64_1_0_0_1_n_n none x w1)
      (broadcastInDim S10000x64 ![] bcast_S_S10000x64 (constant S_ .f32 0x00000000#32))) w2

/-- One iteration of the reference. -/
def hostIter (a : FVec Ideal S10000x10000 .f32) (r z : FVec Ideal S10000x16 .f32) : FVec Ideal S10000x16 .f32 :=
  addf (Host.dotGeneral dot_S10000x10000_S10000x16_S10000x16_1_0_0_1_n_n none a z)
    (mulf (broadcastInDim S10000x16 ![] bcast_S_S10000x16 (constant S_ .f32 0x3DCCCCCD#32)) r)

/-- A row's entries less the row's maximum. -/
def hostShift (z : FVec Ideal S10000x16 .f32) : FVec Ideal S10000x16 .f32 :=
  subf z (broadcastInDim S10000x16 ![0, 1] bcast_S10000x1_S10000x16_0_1 (broadcastInDim S10000x1 ![0] bcast_S10000_S10000x1_0
    (maximumf (broadcastInDim S10000 ![] bcast_S_S10000 (constant S_ .f32 0xFF800000#32))
      (Host.reduce FloatOps.maximumf z (constant S_ .f32 0xFF800000#32) reducesTo_S10000x16_S10000_d1 h_S_))))

/-- The reference's last step. -/
def hostSoft (z : FVec Ideal S10000x16 .f32) : FVec Ideal S10000x16 .f32 :=
  subf (hostShift z) (broadcastInDim S10000x16 ![0, 1] bcast_S10000x1_S10000x16_0_1 (Host.log (broadcastInDim S10000x1 ![0] bcast_S10000_S10000x1_0
    (Host.reduceAdd (Host.exp (hostShift z)) (constant S_ .f32 0x00000000#32) reducesTo_S10000x16_S10000_d1 h_S_))))

theorem hostStart_apply (x : FVec Ideal S10000x256 .f32) (w1 : FVec Ideal S256x64 .f32) (w2 : FVec Ideal S64x16 .f32) (i : Fin 10000) (k : Fin 16) :
    hostStart x w1 w2 (ix2 i k) = ∑ h : Fin 64, max (∑ j : Fin 256, x (ix2 i j) * w1 (ix2 j h)) 0 * w2 (ix2 h k) := by
  pointwise [hostStart]

theorem hostIter_apply (a : FVec Ideal S10000x10000 .f32) (r z : FVec Ideal S10000x16 .f32) (i : Fin 10000) (k : Fin 16) :
    hostIter a r z (ix2 i k) = (∑ j : Fin 10000, a (ix2 i j) * z (ix2 j k)) + (alpha : EReal) * r (ix2 i k) := by
  pointwise [hostIter]
  rw [show Ideal.ofBits FTy.f32 1036831949#32 = _ from lit_alpha]

theorem hostShift_apply (z : FVec Ideal S10000x16 .f32) (i : Fin 10000) (k : Fin 16) :
    hostShift z (ix2 i k) = z (ix2 i k) - Finset.fold max (⊥ : EReal) (fun x => z (ix2 i x)) Finset.univ := by
  pointwise [hostShift]
  rw [show Ideal.ofBits FTy.f32 4286578688#32 = (⊥ : EReal) from lit_bot, max_eq_right bot_le]

theorem hostSoft_apply (z : FVec Ideal S10000x16 .f32) (i : Fin 10000) (k : Fin 16) :
    hostSoft z (ix2 i k) = logSoftmax (fun x => z (ix2 i x)) k := by
  pointwise [hostSoft]
  simp only [hostShift_apply]
  rfl

/-- Of a real adjacency and a real start, the iterates are the relaxation's. -/
theorem hostIter_iterate (a : FVec Ideal S10000x10000 .f32) (z : FVec Ideal S10000x16 .f32) (A : Fin 10000 → Fin 10000 → ℝ) (r : Fin 10000 → Fin 16 → ℝ)
    (ha : ∀ i j, a (ix2 i j) = (A i j : EReal)) (hz : ∀ i k, z (ix2 i k) = (r i k : EReal)) (n : ℕ) (i : Fin 10000) (k : Fin 16) :
    (hostIter a z)^[n] z (ix2 i k) = (relax A r n i k : EReal) := by
  induction n generalizing i with
  | zero => exact hz i k
  | succ n ih =>
    rw [Function.iterate_succ_apply', hostIter_apply]
    simp only [ha, ih, hz]
    rw [sum_coe, ← EReal.coe_mul, ← EReal.coe_add]
    rfl

variable (m : (ℓ : Loc nD τ sig) → Buf (Elt Ideal) ℓ) (c : Dev nD)

/-- The reference's result is its last step after ten iterations from its start. -/
theorem reference_result : Value.res_main_v43 m c
    = hostSoft ((hostIter (m ((c : Thread nD τ).loc main_arg1))
        (hostStart (m ((c : Thread nD τ).loc main_arg0)) (m ((c : Thread nD τ).loc main_arg2)) (m ((c : Thread nD τ).loc main_arg3))))^[10]
      (hostStart (m ((c : Thread nD τ).loc main_arg0)) (m ((c : Thread nD τ).loc main_arg2)) (m ((c : Thread nD τ).loc main_arg3)))) := by
  unfold Value.res_main_v43
  rfl

/-- At real operands. -/
theorem reference_value (X : Fin 10000 → Fin 256 → ℝ) (A : Fin 10000 → Fin 10000 → ℝ) (W : Fin 256 → Fin 64 → ℝ) (U : Fin 64 → Fin 16 → ℝ)
    (hx : ∀ i j, m ((c : Thread nD τ).loc main_arg0) (ix2 i j) = (X i j : EReal))
    (ha : ∀ i j, m ((c : Thread nD τ).loc main_arg1) (ix2 i j) = (A i j : EReal))
    (hw : ∀ i j, m ((c : Thread nD τ).loc main_arg2) (ix2 i j) = (W i j : EReal))
    (hu : ∀ i j, m ((c : Thread nD τ).loc main_arg3) (ix2 i j) = (U i j : EReal)) (i : Fin 10000) (k : Fin 16) :
    Value.res_main_v43 m c (ix2 i k) = result A (dense X W U) i k := by
  have hs : ∀ i k, hostStart (m ((c : Thread nD τ).loc main_arg0)) (m ((c : Thread nD τ).loc main_arg2)) (m ((c : Thread nD τ).loc main_arg3)) (ix2 i k)
      = (dense X W U i k : EReal) := fun i k =>
    (hostStart_apply _ _ _ i k).trans ((dense_apply _ _ _ i k).symm.trans (dense_real _ _ _ X W U hx hw hu i k))
  rw [reference_result, hostSoft_apply]
  exact congrArg (fun y => logSoftmax y k) (funext fun x => hostIter_iterate _ _ A _ ha hs 10 i x)

end Cert.Value

end
-- ==== Proof.Value.Algebraic.lean ====
/- The two programs' results are equal, entry by entry, wherever the precondition holds. -/
module

public import proofs.«01_k».proof.Proof.Frames
public import proofs.«01_k».proof.Proof.Value.Result
public import proofs.«01_k».proof.Proof.Value.Reference

@[expose] public section

set_option maxRecDepth 16384

noncomputable section

namespace Cert.Value

open Cert.Shared
open Idealize.ShloMosaic Idealize.ShloMosaic.TcCoe Idealize.ShloMosaic.Pointwise Idealize.SL.Sem

/-! ## What the precondition says -/

/-- A decided comparison that came out one holds. -/
theorem of_bit {p : Prop} [Decidable p] (h : BitVec.ofBool (decide p) = 1#1) : p := by
  by_contra hp
  rw [decide_eq_false hp] at h
  exact absurd h (by decide)

/-- An operand below infinity is real. -/
theorem real_of_finite (x : EReal) (h : BitVec.ofBool (decide (FloatOps.absf (F := Ideal) (φ := .f32) x < Ideal.ofBits FTy.f32 0x7F800000#32)) = 1#1) :
    x = ((x.toReal : ℝ) : EReal) := by
  have h := of_bit h
  rw [lit_top] at h
  exact real_of_abs_lt x h

/-- An operand that is at most one part in ten thousand is real and small. -/
theorem real_of_small (x : EReal) (h : BitVec.ofBool (decide (FloatOps.absf (F := Ideal) (φ := .f32) x * Ideal.ofBits FTy.f32 0x461C4000#32 ≤ 1)) = 1#1) :
    x = ((x.toReal : ℝ) : EReal) ∧ |x.toReal| ≤ 1 / 10000 := by
  have h := of_bit h
  rw [lit_nodes] at h
  have hr : x = ((x.toReal : ℝ) : EReal) := by
    refine real_of_abs_lt x (lt_top_iff_ne_top.mpr fun e => ?_)
    rw [show FloatOps.absf (F := Ideal) (φ := .f32) x = ⊤ from e, EReal.top_mul_coe_of_pos (by norm_num)] at h
    exact absurd h (by rw [top_le_iff]; exact EReal.coe_ne_top 1)
  refine ⟨hr, ?_⟩
  rw [hr, absf_coe, ← EReal.coe_mul, ← EReal.coe_one, EReal.coe_le_coe_iff] at h
  rw [le_div_iff₀ (by norm_num)]
  exact h

section Pre

variable (x : FVec Ideal Pre_small_adjacency.S10000x256 .f32) (a : FVec Ideal Pre_small_adjacency.S10000x10000 .f32)
  (w : FVec Ideal Pre_small_adjacency.S256x64 .f32) (u : FVec Ideal Pre_small_adjacency.S64x16 .f32)

theorem pre_x (h : (Pre_small_adjacency.fn (F := Ideal) x a w u).1 = fun _ => 1#1) (i : Fin 10000) (j : Fin 256) :
    x (ix2 i j) = (((x (ix2 i j)).toReal : ℝ) : EReal) := by
  have h := congrFun h (ix2 i j)
  pointwise [Pre_small_adjacency.fn] at h
  exact real_of_finite _ h

theorem pre_a (h : (Pre_small_adjacency.fn (F := Ideal) x a w u).2.1 = fun _ => 1#1) (i j : Fin 10000) :
    a (ix2 i j) = (((a (ix2 i j)).toReal : ℝ) : EReal) ∧ |(a (ix2 i j)).toReal| ≤ 1 / 10000 := by
  have h := congrFun h (ix2 i j)
  pointwise [Pre_small_adjacency.fn] at h
  exact real_of_small _ h

theorem pre_w (h : (Pre_small_adjacency.fn (F := Ideal) x a w u).2.2.1 = fun _ => 1#1) (i : Fin 256) (j : Fin 64) :
    w (ix2 i j) = (((w (ix2 i j)).toReal : ℝ) : EReal) := by
  have h := congrFun h (ix2 i j)
  pointwise [Pre_small_adjacency.fn] at h
  exact real_of_finite _ h

theorem pre_u (h : (Pre_small_adjacency.fn (F := Ideal) x a w u).2.2.2 = fun _ => 1#1) (i : Fin 64) (j : Fin 16) :
    u (ix2 i j) = (((u (ix2 i j)).toReal : ℝ) : EReal) := by
  have h := congrFun h (ix2 i j)
  pointwise [Pre_small_adjacency.fn] at h
  exact real_of_finite _ h

end Pre

/-! ## The claim -/

section Claim

open Cert.KernelIdeal

variable (m : (ℓ : Loc nD τ sig) → Buf (Elt Ideal) ℓ) (c : Dev nD)

/-- The operands as real numbers. -/
def argX (i : Fin 10000) (j : Fin 256) : ℝ := EReal.toReal ((m ((c : Thread nD τ).loc main_arg0) : S10000x256.Idx → EReal) (ix2 i j))
def argA (i j : Fin 10000) : ℝ := EReal.toReal ((m ((c : Thread nD τ).loc main_arg1) : S10000x10000.Idx → EReal) (ix2 i j))
def argW (i : Fin 256) (j : Fin 64) : ℝ := EReal.toReal ((m ((c : Thread nD τ).loc main_arg2) : S256x64.Idx → EReal) (ix2 i j))
def argU (i : Fin 64) (j : Fin 16) : ℝ := EReal.toReal ((m ((c : Thread nD τ).loc main_arg3) : S64x16.Idx → EReal) (ix2 i j))

theorem real_args (hpre : Cert.Pre_KernelIdeal_small_adjacency m) : RealArgs m c (argX m c) (argA m c) (argW m c) (argU m c) := by
  obtain ⟨hx, ha, hw, hu⟩ := hpre c
  exact ⟨pre_x _ _ _ _ hx, fun i j => (pre_a _ _ _ _ ha i j).1, pre_w _ _ _ _ hw, pre_u _ _ _ _ hu, fun i j => (pre_a _ _ _ _ ha i j).2⟩

/-- What both programs leave. -/
def value : S10000x16.Idx → EReal := fun y => result (argA m c) (dense (argX m c) (argW m c) (argU m c)) (y 0) (y 1)

end Claim

/-- Under the precondition the kernel and the reference leave the same result, and each its arguments. -/
theorem algebraic : Cert.algebraic_KernelIdeal_ReferenceIdeal_pre_small_adjacency := by
  intro m ρ m' ρ' hpre hagree
  refine ⟨value m, ?_, ?_⟩
  · refine (θ_run KernelIdeal.defs _ _).mono (fun r h c => ⟨?_, (h.1 c).1⟩) (KernelIdeal.Bodies.run m ρ)
    funext y
    rw [eq_ix2 y]
    exact left_result (real_args m c hpre) _ (h.1 c).2 (y 0) (y 1)
  · refine (θ_run ReferenceIdeal.defs _ _).mono (fun r h c => ⟨(h c).1.trans ?_, (h c).2⟩) (ReferenceIdeal.Value.run (F := Ideal) m' ρ')
    have h := real_args m c hpre
    obtain ⟨e0, e1, e2, e3⟩ := hagree c
    funext y
    rw [eq_ix2 y]
    exact reference_value m' c _ _ _ _ (fun i j => (congrFun e0 _).trans (h.x i j)) (fun i j => (congrFun e1 _).trans (h.adj i j))
      (fun i j => (congrFun e2 _).trans (h.w i j)) (fun i j => (congrFun e3 _).trans (h.u i j)) (y 0) (y 1)

end Cert.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Shared.preFacts,
    Cert.Shared.frame_kernel, Cert.Shared.frame_ideal, Cert.Shared.frame_ideal_pre, Cert.Shared.frame_reference, Cert.Shared.frame_reference_pre,
    Cert.Shared.preserves, Cert.Value.algebraic⟩

end Cert.Proof

end
